-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x6144x5120 : Shape := ⟨3, ![2, 6144, 5120]⟩
abbrev S2560x27648 : Shape := ⟨2, ![2560, 27648]⟩
abbrev S40x27648 : Shape := ⟨2, ![40, 27648]⟩
abbrev S216x2560x128 : Shape := ⟨3, ![216, 2560, 128]⟩
abbrev S5120x128 : Shape := ⟨2, ![5120, 128]⟩
abbrev S128x27648 : Shape := ⟨2, ![128, 27648]⟩
abbrev S_ : Shape := ⟨0, ![]⟩

class Facts : Prop where
  bitsLt_bf16_f32 : FTy.bits .bf16 < FTy.bits .f32
  bcast_S_S2x6144x5120 : S_.BroadcastsInDim S2x6144x5120 (![] : Fin 0 → Fin S2x6144x5120.rank)
  bcast_S_S40x27648 : S_.BroadcastsInDim S40x27648 (![] : Fin 0 → Fin S40x27648.rank)

variable [Facts]

def fn {F : FTy → Type} [FloatOps F] (main_arg0 : FVec F S2x6144x5120 .bf16) (main_arg1 : IVec S2560x27648 8) (main_arg2 : FVec F S40x27648 .f32) (main_arg3 : IVec S216x2560x128 32) (main_arg4 : FVec F S5120x128 .bf16) (main_arg5 : FVec F S128x27648 .bf16) : IVec S2x6144x5120 1 × IVec S40x27648 1 :=
  let main_v0 : FVec F S2x6144x5120 .f32 := (extf .f32 · bitsLt_bf16_f32) main_arg0
  let main_v1 : FVec F S2x6144x5120 .f32 := Host.absf main_v0
  let main_cst : FVec F S_ .f32 := constant S_ .f32 0x7F800000#32
  let main_v2 : FVec F S2x6144x5120 .f32 := broadcastInDim S2x6144x5120 ![] bcast_S_S2x6144x5120 main_cst
  let main_v3 : IVec S2x6144x5120 1 := cmpf .olt main_v1 main_v2
  let main_v4 : FVec F S40x27648 .f32 := Host.absf main_arg2
  let main_cst_0 : FVec F S_ .f32 := constant S_ .f32 0x7F800000#32
  let main_v5 : FVec F S40x27648 .f32 := broadcastInDim S40x27648 ![] bcast_S_S40x27648 main_cst_0
  let main_v6 : IVec S40x27648 1 := cmpf .olt main_v4 main_v5
  (main_v3, main_v6)
-- ==== Kernel.lean ====
abbrev S2x6144x5120 : Shape := ⟨3, ![2, 6144, 5120]⟩
abbrev S2560x27648 : Shape := ⟨2, ![2560, 27648]⟩
abbrev S40x27648 : Shape := ⟨2, ![40, 27648]⟩
abbrev S216x2560x128 : Shape := ⟨3, ![216, 2560, 128]⟩
abbrev S5120x128 : Shape := ⟨2, ![5120, 128]⟩
abbrev S128x27648 : Shape := ⟨2, ![128, 27648]⟩
abbrev S12288x5120 : Shape := ⟨2, ![12288, 5120]⟩
abbrev S12288x128 : Shape := ⟨2, ![12288, 128]⟩
abbrev S768x5120 : Shape := ⟨2, ![768, 5120]⟩
abbrev S768x128 : Shape := ⟨2, ![768, 128]⟩
abbrev S8x5x27648 : Shape := ⟨3, ![8, 5, 27648]⟩
abbrev S12288x27648 : Shape := ⟨2, ![12288, 27648]⟩
abbrev S512x5120 : Shape := ⟨2, ![512, 5120]⟩
abbrev S512x128 : Shape := ⟨2, ![512, 128]⟩
abbrev S320x512 : Shape := ⟨2, ![320, 512]⟩
abbrev S1x5x512 : Shape := ⟨3, ![1, 5, 512]⟩
abbrev S4x320x128 : Shape := ⟨3, ![4, 320, 128]⟩
abbrev S128x1536 : Shape := ⟨2, ![128, 1536]⟩
abbrev S512x1536 : Shape := ⟨2, ![512, 1536]⟩
abbrev S2x5120x1536 : Shape := ⟨3, ![2, 5120, 1536]⟩
abbrev S64x128 : Shape := ⟨2, ![64, 128]⟩
abbrev S128x128 : Shape := ⟨2, ![128, 128]⟩
abbrev S1x1x128 : Shape := ⟨3, ![1, 1, 128]⟩
abbrev S1x128 : Shape := ⟨2, ![1, 128]⟩
abbrev S1x64x128 : Shape := ⟨3, ![1, 64, 128]⟩
abbrev S1x640x512 : Shape := ⟨3, ![1, 640, 512]⟩
abbrev S640x512 : Shape := ⟨2, ![640, 512]⟩
abbrev S1x128x128 : Shape := ⟨3, ![1, 128, 128]⟩
abbrev S1x5120x1536 : Shape := ⟨3, ![1, 5120, 1536]⟩
abbrev S5120x1536 : Shape := ⟨2, ![5120, 1536]⟩
abbrev S2x6144x27648 : Shape := ⟨3, ![2, 6144, 27648]⟩

abbrev nBuf : Space → Nat
  | .hbm => 11
  | .vmem => 20
  | .smem => 0
  | _ => 0

abbrev bufTy : (tb : Table) → Fin (tcTables nBuf tb) → BufTy
  | .hbm, ⟨0, _⟩ => ⟨S2x6144x5120, .bf16⟩
  | .hbm, ⟨1, _⟩ => ⟨S2560x27648, .i8⟩
  | .hbm, ⟨2, _⟩ => ⟨S40x27648, .f32⟩
  | .hbm, ⟨3, _⟩ => ⟨S216x2560x128, .i32⟩
  | .hbm, ⟨4, _⟩ => ⟨S5120x128, .bf16⟩
  | .hbm, ⟨5, _⟩ => ⟨S128x27648, .bf16⟩
  | .hbm, ⟨6, _⟩ => ⟨S12288x5120, .bf16⟩
  | .hbm, ⟨7, _⟩ => ⟨S12288x128, .bf16⟩
  | .hbm, ⟨8, _⟩ => ⟨S8x5x27648, .f32⟩
  | .hbm, ⟨9, _⟩ => ⟨S12288x27648, .bf16⟩
  | .hbm, ⟨10, _⟩ => ⟨S2x6144x27648, .bf16⟩
  | .local _ .vmem, ⟨0, _⟩ => ⟨S768x5120, .bf16⟩
  | .local _ .vmem, ⟨1, _⟩ => ⟨S768x5120, .bf16⟩
  | .local _ .vmem, ⟨2, _⟩ => ⟨S5120x128, .bf16⟩
  | .local _ .vmem, ⟨3, _⟩ => ⟨S768x128, .bf16⟩
  | .local _ .vmem, ⟨4, _⟩ => ⟨S768x128, .bf16⟩
  | .local _ .vmem, ⟨5, _⟩ => ⟨S512x5120, .bf16⟩
  | .local _ .vmem, ⟨6, _⟩ => ⟨S512x5120, .bf16⟩
  | .local _ .vmem, ⟨7, _⟩ => ⟨S512x128, .bf16⟩
  | .local _ .vmem, ⟨8, _⟩ => ⟨S512x128, .bf16⟩
  | .local _ .vmem, ⟨9, _⟩ => ⟨S320x512, .i8⟩
  | .local _ .vmem, ⟨10, _⟩ => ⟨S320x512, .i8⟩
  | .local _ .vmem, ⟨11, _⟩ => ⟨S1x5x512, .f32⟩
  | .local _ .vmem, ⟨12, _⟩ => ⟨S1x5x512, .f32⟩
  | .local _ .vmem, ⟨13, _⟩ => ⟨S4x320x128, .i32⟩
  | .local _ .vmem, ⟨14, _⟩ => ⟨S4x320x128, .i32⟩
  | .local _ .vmem, ⟨15, _⟩ => ⟨S128x1536, .bf16⟩
  | .local _ .vmem, ⟨16, _⟩ => ⟨S128x1536, .bf16⟩
  | .local _ .vmem, ⟨17, _⟩ => ⟨S512x1536, .bf16⟩
  | .local _ .vmem, ⟨18, _⟩ => ⟨S512x1536, .bf16⟩
  | .local _ .vmem, ⟨19, _⟩ => ⟨S2x5120x1536, .bf16⟩
  | _, _ => ⟨S2x6144x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![19, 24], ![false, false]⟩

def k1_cond1 (i : grid1.Coords) : BitVec 1 :=
  let arg0 : BitVec 32 := BitVec.ofNat 32 (i 0).val
  let c0_i32_10 : BitVec 32 := 0#32
  let v27 : BitVec 1 := Scalar.cmpi .eq arg0 c0_i32_10
  let v28 : BitVec 32 := Scalar.extui v27
  let c0_i32_11 : BitVec 32 := 0#32
  let v29 : BitVec 1 := Scalar.cmpi .ne v28 c0_i32_11
  v29

def k1_mult1 (i : grid1.Coords) : BitVec 32 :=
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  v43
def k1_mult2 (i : grid1.Coords) : BitVec 32 :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  v45
def k1_off1 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, v46.toNat]
def k1_off2 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, v46.toNat]
def k1_off3 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, v46.toNat]
def k1_off4 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, v46.toNat]
def k1_off5 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, v46.toNat]
def k1_off6 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, v46.toNat]
def k1_off7 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 128]
def k1_off8 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 128]
def k1_off9 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 128]
def k1_off10 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 128]
def k1_off11 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 128]
def k1_off12 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 256]
def k1_off13 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 256]
def k1_off14 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 256]
def k1_off15 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 256]
def k1_off16 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 256]
def k1_off17 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 384]
def k1_off18 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 384]
def k1_off19 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 384]
def k1_off20 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 384]
def k1_off21 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 384]
def k1_cond2 (i : grid1.Coords) : BitVec 1 :=
  let arg0 : BitVec 32 := BitVec.ofNat 32 (i 0).val
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .ne v31 c0_i32_13
  v32

def k1_mult3 (i : grid1.Coords) : BitVec 32 :=
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  v43
def k1_mult4 (i : grid1.Coords) : BitVec 32 :=
  let arg1 : BitVec 32 := BitVec.ofNat 32 (i 1).val
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  v45
def k1_off22 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, v46.toNat]
def k1_off23 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, v46.toNat]
def k1_off24 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, v46.toNat]
def k1_off25 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, v46.toNat]
def k1_off26 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, v46.toNat]
def k1_off27 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, v46.toNat]
def k1_off28 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 128]
def k1_off29 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 128]
def k1_off30 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 128]
def k1_off31 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 128]
def k1_off32 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 128]
def k1_off33 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 256]
def k1_off34 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 256]
def k1_off35 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 256]
def k1_off36 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 256]
def k1_off37 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 256]
def k1_off38 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, v44.toNat, Nat.add v46.toNat 384]
def k1_off39 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 128, Nat.add v46.toNat 384]
def k1_off40 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 256, Nat.add v46.toNat 384]
def k1_off41 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 384, Nat.add v46.toNat 384]
def k1_off42 (i : grid1.Coords) : Fin 3 → Nat :=
  let arg0 : BitVec 32 := BitVec.ofNat 32 (i 0).val
  let c2_i32 : BitVec 32 := 2#32
  let c0_i32_14 : BitVec 32 := 0#32
  let v33 : BitVec 1 := Scalar.cmpi .eq c2_i32 c0_i32_14
  let c1_i32_15 : BitVec 32 := 1#32
  let v34 : BitVec 32 := Scalar.select v33 c1_i32_15 c2_i32
  let v35 : BitVec 32 := Scalar.remsi arg0 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c640_i32 : BitVec 32 := 640#32
  let v43 : BitVec 32 := Scalar.muli v9 c640_i32
  let v44 : BitVec 32 := v43
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c8_i32_3 : BitVec 32 := 8#32
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg1 c8_i32_3
  let c0_i32_8 : BitVec 32 := 0#32
  let v23 : BitVec 1 := Scalar.cmpi .ne v22 c0_i32_8
  let v24 : BitVec 1 := Scalar.andi v21 v23
  let v10 : BitVec 32 := Scalar.divsi arg1 c8_i32_3
  let c1_i32_9 : BitVec 32 := 1#32
  let v25 : BitVec 32 := Scalar.subi v10 c1_i32_9
  let v26 : BitVec 32 := Scalar.select v24 v25 v10
  let c512_i32 : BitVec 32 := 512#32
  let v45 : BitVec 32 := Scalar.muli v26 c512_i32
  let v46 : BitVec 32 := v45
  ![v42.toNat, Nat.add v44.toNat 512, Nat.add v46.toNat 384]
def k1_off43 (i : grid1.Coords) : Fin 3 → Nat :=
  let arg0 : BitVec 32 := BitVec.ofNat 32 (i 0).val
  let c1_i32_303 : BitVec 32 := 1#32
  let v607 : BitVec 32 := Scalar.addi arg0 c1_i32_303
  let c2_i32_304 : BitVec 32 := 2#32
  let c0_i32_305 : BitVec 32 := 0#32
  let v608 : BitVec 1 := Scalar.cmpi .eq c2_i32_304 c0_i32_305
  let c1_i32_306 : BitVec 32 := 1#32
  let v609 : BitVec 32 := Scalar.select v608 c1_i32_306 c2_i32_304
  let v610 : BitVec 32 := Scalar.remsi v607 v609
  let c0_i32_308 : BitVec 32 := 0#32
  let v612 : BitVec 1 := Scalar.cmpi .slt v610 c0_i32_308
  let c0_i32_309 : BitVec 32 := 0#32
  let v613 : BitVec 1 := Scalar.cmpi .slt v609 c0_i32_309
  let v614 : BitVec 1 := Scalar.xori v612 v613
  let c0_i32_307 : BitVec 32 := 0#32
  let v611 : BitVec 1 := Scalar.cmpi .ne v610 c0_i32_307
  let v615 : BitVec 1 := Scalar.andi v614 v611
  let v616 : BitVec 32 := Scalar.addi v610 v609
  let v617 : BitVec 32 := Scalar.select v615 v616 v610
  let v620 : Index := Scalar.indexCast v617
  let c0_312 : Index := 0#32
  let c0_313 : Index := 0#32
  ![v620.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c17_i32 : BitVec 32 := 17#32
  let v10 : BitVec 32 := Scalar.minsi arg0 c17_i32
  let c3_i32 : BitVec 32 := 3#32
  let v11 : BitVec 32 := Scalar.muli v10 c3_i32
  let c8_i32_3 : BitVec 32 := 8#32
  let v12 : BitVec 32 := Scalar.divsi arg1 c8_i32_3
  let c0_i32_4 : BitVec 32 := 0#32
  let v13 : BitVec 1 := Scalar.cmpi .sgt arg1 c0_i32_4
  let v14 : BitVec 32 := Scalar.extui v13
  let c0_i32_5 : BitVec 32 := 0#32
  let v15 : BitVec 1 := Scalar.cmpi .slt arg1 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg1 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let c0_i32_10 : BitVec 32 := 0#32
  ![v9.toNat, v29.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c17_i32 : BitVec 32 := 17#32
  let v10 : BitVec 32 := Scalar.minsi arg0 c17_i32
  let c3_i32 : BitVec 32 := 3#32
  let v11 : BitVec 32 := Scalar.muli v10 c3_i32
  let c8_i32_3 : BitVec 32 := 8#32
  let v12 : BitVec 32 := Scalar.divsi arg1 c8_i32_3
  let c0_i32_4 : BitVec 32 := 0#32
  let v13 : BitVec 1 := Scalar.cmpi .sgt arg1 c0_i32_4
  let v14 : BitVec 32 := Scalar.extui v13
  let c0_i32_5 : BitVec 32 := 0#32
  let v15 : BitVec 1 := Scalar.cmpi .slt arg1 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg1 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let c0_i32_10 : BitVec 32 := 0#32
  let c0_i32_11 : BitVec 32 := 0#32
  ![v9.toNat, c0_i32_10.toNat, v29.toNat]

def cc1_transform_4 (i : grid1.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.minsi arg0 c17_i32
  let c3_i32 : BitVec 32 := 3#32
  let v1 : BitVec 32 := Scalar.muli v0 c3_i32
  let c8_i32 : BitVec 32 := 8#32
  let v2 : BitVec 32 := Scalar.divsi arg1 c8_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi arg1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c8_i32_4 : BitVec 32 := 8#32
  let c0_i32_5 : BitVec 32 := 0#32
  let v20 : BitVec 1 := Scalar.cmpi .eq c8_i32_4 c0_i32_5
  let c1_i32_6 : BitVec 32 := 1#32
  let v21 : BitVec 32 := Scalar.select v20 c1_i32_6 c8_i32_4
  let v22 : BitVec 32 := Scalar.remsi arg1 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, v29.toNat, c0_i32_10.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage1_0 : Fin 2 → Memref sig .tc .vmem S512x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S320x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x5x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x320x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x1536 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S2x6144x5120 : Shape := ⟨3, ![2, 6144, 5120]⟩
abbrev S2560x27648 : Shape := ⟨2, ![2560, 27648]⟩
abbrev S40x27648 : Shape := ⟨2, ![40, 27648]⟩
abbrev S216x2560x128 : Shape := ⟨3, ![216, 2560, 128]⟩
abbrev S5120x128 : Shape := ⟨2, ![5120, 128]⟩
abbrev S128x27648 : Shape := ⟨2, ![128, 27648]⟩
abbrev S_ : Shape := ⟨0, ![]⟩
abbrev S40x64x27648 : Shape := ⟨3, ![40, 64, 27648]⟩
abbrev S40x1x27648 : Shape := ⟨3, ![40, 1, 27648]⟩
abbrev S2x6144x2560 : Shape := ⟨3, ![2, 6144, 2560]⟩
abbrev S2x6144x27648 : Shape := ⟨3, ![2, 6144, 27648]⟩
abbrev S216x2560x128x2 : Shape := ⟨4, ![216, 2560, 128, 2]⟩
abbrev S2560x2x216x128 : Shape := ⟨4, ![2560, 2, 216, 128]⟩
abbrev S5120x27648 : Shape := ⟨2, ![5120, 27648]⟩
abbrev S2x6144x128 : Shape := ⟨3, ![2, 6144, 128]⟩

abbrev nBuf : Space → Nat
  | .hbm => 58
  | .vmem => 0
  | .smem => 0
  | _ => 0

abbrev bufTy : (tb : Table) → Fin (tcTables nBuf tb) → BufTy
  | .hbm, ⟨0, _⟩ => ⟨S2x6144x5120, .bf16⟩
  | .hbm, ⟨1, _⟩ => ⟨S2560x27648, .i8⟩
  | .hbm, ⟨2, _⟩ => ⟨S40x27648, .f32⟩
  | .hbm, ⟨3, _⟩ => ⟨S216x2560x128, .i32⟩
  | .hbm, ⟨4, _⟩ => ⟨S5120x128, .bf16⟩
  | .hbm, ⟨5, _⟩ => ⟨S128x27648, .bf16⟩
  | .hbm, ⟨6, _⟩ => ⟨S40x27648, .bf16⟩
  | .hbm, ⟨7, _⟩ => ⟨S2560x27648, .i32⟩
  | .hbm, ⟨8, _⟩ => ⟨S_, .i32⟩
  | .hbm, ⟨9, _⟩ => ⟨S2560x27648, .i32⟩
  | .hbm, ⟨10, _⟩ => ⟨S2560x27648, .i32⟩
  | .hbm, ⟨11, _⟩ => ⟨S_, .i32⟩
  | .hbm, ⟨12, _⟩ => ⟨S2560x27648, .i32⟩
  | .hbm, ⟨13, _⟩ => ⟨S2560x27648, .i1⟩
  | .hbm, ⟨14, _⟩ => ⟨S_, .i32⟩
  | .hbm, ⟨15, _⟩ => ⟨S2560x27648, .i32⟩
  | .hbm, ⟨16, _⟩ => ⟨S2560x27648, .i32⟩
  | .hbm, ⟨17, _⟩ => ⟨S2560x27648, .i32⟩
  | .hbm, ⟨18, _⟩ => ⟨S2560x27648, .bf16⟩
  | .hbm, ⟨19, _⟩ => ⟨S40x64x27648, .bf16⟩
  | .hbm, ⟨20, _⟩ => ⟨S40x1x27648, .bf16⟩
  | .hbm, ⟨21, _⟩ => ⟨S40x64x27648, .bf16⟩
  | .hbm, ⟨22, _⟩ => ⟨S40x64x27648, .bf16⟩
  | .hbm, ⟨23, _⟩ => ⟨S2560x27648, .bf16⟩
  | .hbm, ⟨24, _⟩ => ⟨S_, .i32⟩
  | .hbm, ⟨25, _⟩ => ⟨S2560x27648, .i32⟩
  | .hbm, ⟨26, _⟩ => ⟨S2560x27648, .i32⟩
  | .hbm, ⟨27, _⟩ => ⟨S_, .i32⟩
  | .hbm, ⟨28, _⟩ => ⟨S2560x27648, .i32⟩
  | .hbm, ⟨29, _⟩ => ⟨S2560x27648, .i1⟩
  | .hbm, ⟨30, _⟩ => ⟨S_, .i32⟩
  | .hbm, ⟨31, _⟩ => ⟨S2560x27648, .i32⟩
  | .hbm, ⟨32, _⟩ => ⟨S2560x27648, .i32⟩
  | .hbm, ⟨33, _⟩ => ⟨S2560x27648, .i32⟩
  | .hbm, ⟨34, _⟩ => ⟨S2560x27648, .bf16⟩
  | .hbm, ⟨35, _⟩ => ⟨S40x64x27648, .bf16⟩
  | .hbm, ⟨36, _⟩ => ⟨S40x1x27648, .bf16⟩
  | .hbm, ⟨37, _⟩ => ⟨S40x64x27648, .bf16⟩
  | .hbm, ⟨38, _⟩ => ⟨S40x64x27648, .bf16⟩
  | .hbm, ⟨39, _⟩ => ⟨S2560x27648, .bf16⟩
  | .hbm, ⟨40, _⟩ => ⟨S2x6144x2560, .bf16⟩
  | .hbm, ⟨41, _⟩ => ⟨S2x6144x27648, .f32⟩
  | .hbm, ⟨42, _⟩ => ⟨S2x6144x2560, .bf16⟩
  | .hbm, ⟨43, _⟩ => ⟨S2x6144x27648, .f32⟩
  | .hbm, ⟨44, _⟩ => ⟨S2x6144x27648, .f32⟩
  | .hbm, ⟨45, _⟩ => ⟨S216x2560x128x2, .bf16⟩
  | .hbm, ⟨46, _⟩ => ⟨S2560x2x216x128, .bf16⟩
  | .hbm, ⟨47, _⟩ => ⟨S5120x27648, .bf16⟩
  | .hbm, ⟨48, _⟩ => ⟨S2x6144x27648, .f32⟩
  | .hbm, ⟨49, _⟩ => ⟨S2x6144x128, .f32⟩
  | .hbm, ⟨50, _⟩ => ⟨S2x6144x128, .bf16⟩
  | .hbm, ⟨51, _⟩ => ⟨S2x6144x27648, .f32⟩
  | .hbm, ⟨52, _⟩ => ⟨S2x6144x27648, .f32⟩
  | .hbm, ⟨53, _⟩ => ⟨S_, .f32⟩
  | .hbm, ⟨54, _⟩ => ⟨S2x6144x27648, .f32⟩
  | .hbm, ⟨55, _⟩ => ⟨S2x6144x27648, .f32⟩
  | .hbm, ⟨56, _⟩ => ⟨S2x6144x27648, .f32⟩
  | .hbm, ⟨57, _⟩ => ⟨S2x6144x27648, .bf16⟩
  | _, _ => ⟨S2x6144x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.K.Body1.lean ====
module

public import proofs.«01_k».proof.Proof.Gen.Kernel.Launch
public import proofs.«01_k».proof.Proof.Gen.Kernel.Skeleton
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's. -/
abbrev UU : Type := UR sig nD τ

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first column step only decodes. -/
noncomputable def run1 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    { W : Bf (F := F) c arg9 // ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 f8 ∗ pt c arg9 W) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q } := by
  refine ⟨?_, fun E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.Kernel

end
-- ==== Proof.K.Body0.lean ====
module

public import proofs.«01_k».proof.Proof.Gen.Kernel.Launch
public import proofs.«01_k».proof.Proof.Gen.Kernel.Skeleton
public import Idealize.ShloMosaic.Lib.Tactic
public import proofs.«01_k».proof.Proof.K.Body1

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first call's body: one product, rounded and stored whole. -/
noncomputable def run0 (c : Dev nD) (i : grid0.Coords) (arg1 : Memref sig .tc .vmem S768x5120 .bf16) (harg1 : arg1.IsWhole) (arg2 : Memref sig .tc .vmem S5120x128 .bf16) (harg2 : arg2.IsWhole) (arg3 : Memref sig .tc .vmem S768x128 .bf16) (harg3 : arg3.IsWhole)
    (f1 : Bf (F := F) c arg1) (f2 : Bf (F := F) c arg2) (f3 : Bf (F := F) c arg3) :
    { W : Bf (F := F) c arg3 // ∀ (E : Set ℕ) (Q : PUnit → sProp 𝕄),
        iprop(pt c arg1 f1 ∗ pt c arg2 f2 ∗ pt c arg3 f3
          ∗ (iprop(pt c arg1 f1 ∗ pt c arg2 f2 ∗ pt c arg3 W) -∗ Q ⟨⟩))
          ⊢ wp frame (wpE (defs₀ (F := F)) Variants.none c none) E (cc0_lora_down i arg1 harg1 arg2 harg2 arg3 harg3) Q } := by
  refine ⟨?_, fun E Q => ?run⟩
  case run =>
    iintro ⟨H1, H2, H3, Hk⟩
    sl_exec_parts!
    sl_step
    iapply Hk
    isplitl [H1]; · iexact H1
    isplitl [H2]; · iexact H2
    iexact H3

end Cert.Proof.Kernel

end
-- ==== Proof.K.Spec0.lean ====
module

public import proofs.«01_k».proof.Proof.K.Body0
public import proofs.«01_k».proof.Proof.Gen.Kernel.Points
public import Idealize.ShloMosaic.Lib.Pipeline.ValueKit.Geometry

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Owning a whole buffer's memref at contents `X` is holding the buffer at something that reads as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- A load of the whole view reads the view. -/
theorem readAt_whole {sp : Space} {S : Shape} {e : EltTy} (v : View sig .tc sp S e) {off : Fin S.rank → Nat}
    (inb : ∀ a, off a + S.size a ≤ S.size a) (h : ∀ a, off a = 0) (f : v.ty.Contents (Elt F)) :
    View.readAt (Elt F) v (Rect.unit off S.size inb).toLoadRect f = v.read (Elt F) f := by
  obtain rfl : off = fun _ => 0 := funext h
  funext x
  show v.read (Elt F) f ((Rect.whole S).emb x) = v.read (Elt F) f x
  rw [Rect.emb_whole_apply]

/-- A store of the whole view leaves its payload. -/
theorem read_store_whole {sp : Space} {S : Shape} {e : EltTy} (v : View sig .tc sp S e) {off : Fin S.rank → Nat}
    (inb : ∀ a, off a + S.size a ≤ S.size a) (h : ∀ a, off a = 0) (f : v.ty.Contents (Elt F)) (w : S.Idx → Elt F e) :
    v.read (Elt F) (v.writes (Elt F) f [(⟨Rect.unit off S.size inb, w⟩ : View.Piece (Elt F) S e)]) = w := by
  obtain rfl : off = fun _ => 0 := funext h
  funext x
  have := View.read_writes_cons_emb (Val := Elt F) v f (Rect.unit (fun _ => 0) S.size inb) w [] x
  rw [show (Rect.unit (fun _ => 0) S.size inb).emb x = x from by
    show (Rect.whole S).emb x = x
    rw [Rect.emb_whole_apply]] at this
  exact this

/-- The down projection's body over its blocks. -/
theorem bodyspec0 (c : Dev nD) (i : grid0.Coords) (arg1 : Memref sig .tc .vmem S768x5120 .bf16) (harg1 : arg1.IsWhole) (arg2 : Memref sig .tc .vmem S5120x128 .bf16) (harg2 : arg2.IsWhole) (arg3 : Memref sig .tc .vmem S768x128 .bf16) (harg3 : arg3.IsWhole)
    (X : S768x5120.Idx → Elt F .bf16) (Y : S5120x128.Idx → Elt F .bf16) (E : Set ℕ) (Q : PUnit → sProp 𝕄) :
    iprop(owns (c : Thread nD τ) arg1 fullShare X ∗ owns (c : Thread nD τ) arg2 fullShare Y ∗ (∃ Z, owns (c : Thread nD τ) arg3 fullShare Z)
        ∗ (iprop(owns (c : Thread nD τ) arg1 fullShare X ∗ owns (c : Thread nD τ) arg2 fullShare Y ∗ owns (c : Thread nD τ) arg3 fullShare (k0_pay1 X Y)) -∗ Q ⟨⟩))
      ⊢ wp frame (wpE (defs₀ (F := F)) Variants.none c none) E (cc0_lora_down i arg1 harg1 arg2 harg2 arg3 harg3) Q := by
  simp only [owns_pt c harg1, owns_pt c harg2, owns_pt c harg3]
  iintro ⟨⟨%f1, %h1, H1⟩, ⟨%f2, %h2, H2⟩, ⟨%Z, %f3, -, H3⟩, Hk⟩
  iapply ((run0 c i arg1 harg1 arg2 harg2 arg3 harg3 f1 f2 f3).2 E Q)
  isplitl [H1]; · iexact H1
  isplitl [H2]; · iexact H2
  isplitl [H3]; · iexact H3
  iintro ⟨H1, H2, H3⟩
  iapply Hk
  isplitl [H1]; · iexists _; isplitr; swap; (· iexact H1); ipureintro; exact h1
  isplitl [H2]; · iexists _; isplitr; swap; (· iexact H2); ipureintro; exact h2
  iexists _; isplitr; swap; (· iexact H3)
  ipureintro
  subst h1 h2
  refine (read_store_whole arg3.view _ (by decide) _ _).trans ?_
  exact congrArg₂ k0_pay1 (readAt_whole arg1.view _ (by decide) f1) (readAt_whole arg2.view _ (by decide) f2)

end Cert.Proof.Kernel

end
-- ==== Proof.K.Off.lean ====
/-
  The store offsets of the second call in closed form: slot, row and column of the group a point writes.
-/
module

public import proofs.«01_k».proof.Proof.Gen.Kernel.Launch
public import proofs.«01_k».proof.Proof.Gen.Kernel.Skeleton
public import Idealize.ShloMosaic.Lib.Tactic

@[expose] public section

set_option maxRecDepth 16384

noncomputable section

namespace Cert.Proof.Kernel

open Cert.Kernel Cert.Kernel.Gen
open Idealize.ShloMosaic Idealize.ShloMosaic.Tactic

/-- A point of the second call's grid from its two coordinates. -/
def ci (a : Fin 19) (b : Fin 24) : grid1.Coords := fun x => match x with
  | ⟨0, _⟩ => a
  | ⟨1, _⟩ => b

theorem ci_eta (i : grid1.Coords) : ci (i 0) (i 1) = i := by
  funext x
  match x with
  | ⟨0, _⟩ => rfl
  | ⟨1, _⟩ => rfl

/-- What holds at every pair of coordinates holds at every point. -/
theorem forall_ci {P : grid1.Coords → Prop} (h : ∀ (a : Fin 19) (b : Fin 24), P (ci a b)) (i : grid1.Coords) : P i :=
  ci_eta i ▸ h (i 0) (i 1)

theorem off2_eq (i : grid1.Coords) : k1_off2 i = ![(i 0).val % 2, (i 1).val % 8 * 640 + 0, (i 1).val / 8 * 512 + 0] :=
  forall_ci (P := fun i => k1_off2 i = ![(i 0).val % 2, (i 1).val % 8 * 640 + 0, (i 1).val / 8 * 512 + 0]) (by decide +kernel) i
instance (i : grid1.Coords) : ClosedOff (k1_off2 i) := ⟨_, off2_eq i⟩
theorem off3_eq (i : grid1.Coords) : k1_off3 i = ![(i 0).val % 2, (i 1).val % 8 * 640 + 128, (i 1).val / 8 * 512 + 0] :=
  forall_ci (P := fun i => k1_off3 i = ![(i 0).val % 2, (i 1).val % 8 * 640 + 128, (i 1).val / 8 * 512 + 0]) (by decide +kernel) i
instance (i : grid1.Coords) : ClosedOff (k1_off3 i) := ⟨_, off3_eq i⟩
theorem off4_eq (i : grid1.Coords) : k1_off4 i = ![(i 0).val % 2, (i 1).val % 8 * 640 + 256, (i 1).val / 8 * 512 + 0] :=
  forall_ci (P := fun i => k1_off4 i = ![(i 0).val % 2, (i 1).val % 8 * 640 + 256, (i 1).val / 8 * 512 + 0]) (by decide +kernel) i
instance (i : grid1.Coords) : ClosedOff (k1_off4 i) := ⟨_, off4_eq i⟩
theorem off5_eq (i : grid1.Coords) : k1_off5 i = ![(i 0).val % 2, (i 1).val % 8 * 640 + 384, (i 1).val / 8 * 512 + 0] :=
  forall_ci (P := fun i => k1_off5 i = ![(i 0).val % 2, (i 1).val % 8 * 640 + 384, (i 1).val / 8 * 512 + 0]) (by decide +kernel) i
instance (i : grid1.Coords) : ClosedOff (k1_off5 i) := ⟨_, off5_eq i⟩
theorem off6_eq (i : grid1.Coords) : k1_off6 i = ![(i 0).val % 2, (i 1).val % 8 * 640 + 512, (i 1).val / 8 * 512 + 0] :=
  forall_ci (P := fun i => k1_off6 i = ![(i 0).val % 2, (i 1).val % 8 * 640 + 512, (i 1).val / 8 * 512 + 0]) (by decide +kernel) i
instance (i : grid1.Coords) : ClosedOff (k1_off6 i) := ⟨_, off6_eq i⟩
theorem off7_eq (i : grid1.Coords) : k1_off7 i = ![(i 0).val % 2, (i 1).val % 8 * 640 + 0, (i 1).val / 8 * 512 + 128] :=
  forall_ci (P := fun i => k1_off7 i = ![(i 0).val % 2, (i 1).val % 8 * 640 + 0, (i 1).val / 8 * 512 + 128]) (by decide +kernel) i
instance (i : grid1.Coords) : ClosedOff (k1_off7 i) := ⟨_, off7_eq i⟩
theorem off8_eq (i : grid1.Coords) : k1_off8 i = ![(i 0).val % 2, (i 1).val % 8 * 640 + 128, (i 1).val / 8 * 512 + 128] :=
  forall_ci (P := fun i => k1_off8 i = ![(i 0).val % 2, (i 1).val % 8 * 640 + 128, (i 1).val / 8 * 512 + 128]) (by decide +kernel) i
instance (i : grid1.Coords) : ClosedOff (k1_off8 i) := ⟨_, off8_eq i⟩
theorem off9_eq (i : grid1.Coords) : k1_off9 i = ![(i 0).val % 2, (i 1).val % 8 * 640 + 256, (i 1).val / 8 * 512 + 128] :=
  forall_ci (P := fun i => k1_off9 i = ![(i 0).val % 2, (i 1).val % 8 * 640 + 256, (i 1).val / 8 * 512 + 128]) (by decide +kernel) i
instance (i : grid1.Coords) : ClosedOff (k1_off9 i) := ⟨_, off9_eq i⟩
theorem off10_eq (i : grid1.Coords) : k1_off10 i = ![(i 0).val % 2, (i 1).val % 8 * 640 + 384, (i 1).val / 8 * 512 + 128] :=
  forall_ci (P := fun i => k1_off10 i = ![(i 0).val % 2, (i 1).val % 8 * 640 + 384, (i 1).val / 8 * 512 + 128]) (by decide +kernel) i
instance (i : grid1.Coords) : ClosedOff (k1_off10 i) := ⟨_, off10_eq i⟩
theorem off11_eq (i : grid1.Coords) : k1_off11 i = ![(i 0).val % 2, (i 1).val % 8 * 640 + 512, (i 1).val / 8 * 512 + 128] :=
  forall_ci (P := fun i => k1_off11 i = ![(i 0).val % 2, (i 1).val % 8 * 640 + 512, (i 1).val / 8 * 512 + 128]) (by decide +kernel) i
instance (i : grid1.Coords) : ClosedOff (k1_off11 i) := ⟨_, off11_eq i⟩
theorem off12_eq (i : grid1.Coords) : k1_off12 i = ![(i 0).val % 2, (i 1).val % 8 * 640 + 0, (i 1).val / 8 * 512 + 256] :=
  forall_ci (P := fun i => k1_off12 i = ![(i 0).val % 2, (i 1).val % 8 * 640 + 0, (i 1).val / 8 * 512 + 256]) (by decide +kernel) i
instance (i : grid1.Coords) : ClosedOff (k1_off12 i) := ⟨_, off12_eq i⟩
theorem off13_eq (i : grid1.Coords) : k1_off13 i = ![(i 0).val % 2, (i 1).val % 8 * 640 + 128, (i 1).val / 8 * 512 + 256] :=
  forall_ci (P := fun i => k1_off13 i = ![(i 0).val % 2, (i 1).val % 8 * 640 + 128, (i 1).val / 8 * 512 + 256]) (by decide +kernel) i
instance (i : grid1.Coords) : ClosedOff (k1_off13 i) := ⟨_, off13_eq i⟩
theorem off14_eq (i : grid1.Coords) : k1_off14 i = ![(i 0).val % 2, (i 1).val % 8 * 640 + 256, (i 1).val / 8 * 512 + 256] :=
  forall_ci (P := fun i => k1_off14 i = ![(i 0).val % 2, (i 1).val % 8 * 640 + 256, (i 1).val / 8 * 512 + 256]) (by decide +kernel) i
instance (i : grid1.Coords) : ClosedOff (k1_off14 i) := ⟨_, off14_eq i⟩
theorem off15_eq (i : grid1.Coords) : k1_off15 i = ![(i 0).val % 2, (i 1).val % 8 * 640 + 384, (i 1).val / 8 * 512 + 256] :=
  forall_ci (P := fun i => k1_off15 i = ![(i 0).val % 2, (i 1).val % 8 * 640 + 384, (i 1).val / 8 * 512 + 256]) (by decide +kernel) i
instance (i : grid1.Coords) : ClosedOff (k1_off15 i) := ⟨_, off15_eq i⟩
theorem off16_eq (i : grid1.Coords) : k1_off16 i = ![(i 0).val % 2, (i 1).val % 8 * 640 + 512, (i 1).val / 8 * 512 + 256] :=
  forall_ci (P := fun i => k1_off16 i = ![(i 0).val % 2, (i 1).val % 8 * 640 + 512, (i 1).val / 8 * 512 + 256]) (by decide +kernel) i
instance (i : grid1.Coords) : ClosedOff (k1_off16 i) := ⟨_, off16_eq i⟩
theorem off17_eq (i : grid1.Coords) : k1_off17 i = ![(i 0).val % 2, (i 1).val % 8 * 640 + 0, (i 1).val / 8 * 512 + 384] :=
  forall_ci (P := fun i => k1_off17 i = ![(i 0).val % 2, (i 1).val % 8 * 640 + 0, (i 1).val / 8 * 512 + 384]) (by decide +kernel) i
instance (i : grid1.Coords) : ClosedOff (k1_off17 i) := ⟨_, off17_eq i⟩
theorem off18_eq (i : grid1.Coords) : k1_off18 i = ![(i 0).val % 2, (i 1).val % 8 * 640 + 128, (i 1).val / 8 * 512 + 384] :=
  forall_ci (P := fun i => k1_off18 i = ![(i 0).val % 2, (i 1).val % 8 * 640 + 128, (i 1).val / 8 * 512 + 384]) (by decide +kernel) i
instance (i : grid1.Coords) : ClosedOff (k1_off18 i) := ⟨_, off18_eq i⟩
theorem off19_eq (i : grid1.Coords) : k1_off19 i = ![(i 0).val % 2, (i 1).val % 8 * 640 + 256, (i 1).val / 8 * 512 + 384] :=
  forall_ci (P := fun i => k1_off19 i = ![(i 0).val % 2, (i 1).val % 8 * 640 + 256, (i 1).val / 8 * 512 + 384]) (by decide +kernel) i
instance (i : grid1.Coords) : ClosedOff (k1_off19 i) := ⟨_, off19_eq i⟩
theorem off20_eq (i : grid1.Coords) : k1_off20 i = ![(i 0).val % 2, (i 1).val % 8 * 640 + 384, (i 1).val / 8 * 512 + 384] :=
  forall_ci (P := fun i => k1_off20 i = ![(i 0).val % 2, (i 1).val % 8 * 640 + 384, (i 1).val / 8 * 512 + 384]) (by decide +kernel) i
instance (i : grid1.Coords) : ClosedOff (k1_off20 i) := ⟨_, off20_eq i⟩
theorem off21_eq (i : grid1.Coords) : k1_off21 i = ![(i 0).val % 2, (i 1).val % 8 * 640 + 512, (i 1).val / 8 * 512 + 384] :=
  forall_ci (P := fun i => k1_off21 i = ![(i 0).val % 2, (i 1).val % 8 * 640 + 512, (i 1).val / 8 * 512 + 384]) (by decide +kernel) i
instance (i : grid1.Coords) : ClosedOff (k1_off21 i) := ⟨_, off21_eq i⟩
theorem off23_eq (i : grid1.Coords) : k1_off23 i = ![(i 0).val % 2, (i 1).val % 8 * 640 + 0, (i 1).val / 8 * 512 + 0] :=
  forall_ci (P := fun i => k1_off23 i = ![(i 0).val % 2, (i 1).val % 8 * 640 + 0, (i 1).val / 8 * 512 + 0]) (by decide +kernel) i
instance (i : grid1.Coords) : ClosedOff (k1_off23 i) := ⟨_, off23_eq i⟩
theorem off24_eq (i : grid1.Coords) : k1_off24 i = ![(i 0).val % 2, (i 1).val % 8 * 640 + 128, (i 1).val / 8 * 512 + 0] :=
  forall_ci (P := fun i => k1_off24 i = ![(i 0).val % 2, (i 1).val % 8 * 640 + 128, (i 1).val / 8 * 512 + 0]) (by decide +kernel) i
instance (i : grid1.Coords) : ClosedOff (k1_off24 i) := ⟨_, off24_eq i⟩
theorem off25_eq (i : grid1.Coords) : k1_off25 i = ![(i 0).val % 2, (i 1).val % 8 * 640 + 256, (i 1).val / 8 * 512 + 0] :=
  forall_ci (P := fun i => k1_off25 i = ![(i 0).val % 2, (i 1).val % 8 * 640 + 256, (i 1).val / 8 * 512 + 0]) (by decide +kernel) i
instance (i : grid1.Coords) : ClosedOff (k1_off25 i) := ⟨_, off25_eq i⟩
theorem off26_eq (i : grid1.Coords) : k1_off26 i = ![(i 0).val % 2, (i 1).val % 8 * 640 + 384, (i 1).val / 8 * 512 + 0] :=
  forall_ci (P := fun i => k1_off26 i = ![(i 0).val % 2, (i 1).val % 8 * 640 + 384, (i 1).val / 8 * 512 + 0]) (by decide +kernel) i
instance (i : grid1.Coords) : ClosedOff (k1_off26 i) := ⟨_, off26_eq i⟩
theorem off27_eq (i : grid1.Coords) : k1_off27 i = ![(i 0).val % 2, (i 1).val % 8 * 640 + 512, (i 1).val / 8 * 512 + 0] :=
  forall_ci (P := fun i => k1_off27 i = ![(i 0).val % 2, (i 1).val % 8 * 640 + 512, (i 1).val / 8 * 512 + 0]) (by decide +kernel) i
instance (i : grid1.Coords) : ClosedOff (k1_off27 i) := ⟨_, off27_eq i⟩
theorem off28_eq (i : grid1.Coords) : k1_off28 i = ![(i 0).val % 2, (i 1).val % 8 * 640 + 0, (i 1).val / 8 * 512 + 128] :=
  forall_ci (P := fun i => k1_off28 i = ![(i 0).val % 2, (i 1).val % 8 * 640 + 0, (i 1).val / 8 * 512 + 128]) (by decide +kernel) i
instance (i : grid1.Coords) : ClosedOff (k1_off28 i) := ⟨_, off28_eq i⟩
theorem off29_eq (i : grid1.Coords) : k1_off29 i = ![(i 0).val % 2, (i 1).val % 8 * 640 + 128, (i 1).val / 8 * 512 + 128] :=
  forall_ci (P := fun i => k1_off29 i = ![(i 0).val % 2, (i 1).val % 8 * 640 + 128, (i 1).val / 8 * 512 + 128]) (by decide +kernel) i
instance (i : grid1.Coords) : ClosedOff (k1_off29 i) := ⟨_, off29_eq i⟩
theorem off30_eq (i : grid1.Coords) : k1_off30 i = ![(i 0).val % 2, (i 1).val % 8 * 640 + 256, (i 1).val / 8 * 512 + 128] :=
  forall_ci (P := fun i => k1_off30 i = ![(i 0).val % 2, (i 1).val % 8 * 640 + 256, (i 1).val / 8 * 512 + 128]) (by decide +kernel) i
instance (i : grid1.Coords) : ClosedOff (k1_off30 i) := ⟨_, off30_eq i⟩
theorem off31_eq (i : grid1.Coords) : k1_off31 i = ![(i 0).val % 2, (i 1).val % 8 * 640 + 384, (i 1).val / 8 * 512 + 128] :=
  forall_ci (P := fun i => k1_off31 i = ![(i 0).val % 2, (i 1).val % 8 * 640 + 384, (i 1).val / 8 * 512 + 128]) (by decide +kernel) i
instance (i : grid1.Coords) : ClosedOff (k1_off31 i) := ⟨_, off31_eq i⟩
theorem off32_eq (i : grid1.Coords) : k1_off32 i = ![(i 0).val % 2, (i 1).val % 8 * 640 + 512, (i 1).val / 8 * 512 + 128] :=
  forall_ci (P := fun i => k1_off32 i = ![(i 0).val % 2, (i 1).val % 8 * 640 + 512, (i 1).val / 8 * 512 + 128]) (by decide +kernel) i
instance (i : grid1.Coords) : ClosedOff (k1_off32 i) := ⟨_, off32_eq i⟩
theorem off33_eq (i : grid1.Coords) : k1_off33 i = ![(i 0).val % 2, (i 1).val % 8 * 640 + 0, (i 1).val / 8 * 512 + 256] :=
  forall_ci (P := fun i => k1_off33 i = ![(i 0).val % 2, (i 1).val % 8 * 640 + 0, (i 1).val / 8 * 512 + 256]) (by decide +kernel) i
instance (i : grid1.Coords) : ClosedOff (k1_off33 i) := ⟨_, off33_eq i⟩
theorem off34_eq (i : grid1.Coords) : k1_off34 i = ![(i 0).val % 2, (i 1).val % 8 * 640 + 128, (i 1).val / 8 * 512 + 256] :=
  forall_ci (P := fun i => k1_off34 i = ![(i 0).val % 2, (i 1).val % 8 * 640 + 128, (i 1).val / 8 * 512 + 256]) (by decide +kernel) i
instance (i : grid1.Coords) : ClosedOff (k1_off34 i) := ⟨_, off34_eq i⟩
theorem off35_eq (i : grid1.Coords) : k1_off35 i = ![(i 0).val % 2, (i 1).val % 8 * 640 + 256, (i 1).val / 8 * 512 + 256] :=
  forall_ci (P := fun i => k1_off35 i = ![(i 0).val % 2, (i 1).val % 8 * 640 + 256, (i 1).val / 8 * 512 + 256]) (by decide +kernel) i
instance (i : grid1.Coords) : ClosedOff (k1_off35 i) := ⟨_, off35_eq i⟩
theorem off36_eq (i : grid1.Coords) : k1_off36 i = ![(i 0).val % 2, (i 1).val % 8 * 640 + 384, (i 1).val / 8 * 512 + 256] :=
  forall_ci (P := fun i => k1_off36 i = ![(i 0).val % 2, (i 1).val % 8 * 640 + 384, (i 1).val / 8 * 512 + 256]) (by decide +kernel) i
instance (i : grid1.Coords) : ClosedOff (k1_off36 i) := ⟨_, off36_eq i⟩
theorem off37_eq (i : grid1.Coords) : k1_off37 i = ![(i 0).val % 2, (i 1).val % 8 * 640 + 512, (i 1).val / 8 * 512 + 256] :=
  forall_ci (P := fun i => k1_off37 i = ![(i 0).val % 2, (i 1).val % 8 * 640 + 512, (i 1).val / 8 * 512 + 256]) (by decide +kernel) i
instance (i : grid1.Coords) : ClosedOff (k1_off37 i) := ⟨_, off37_eq i⟩
theorem off38_eq (i : grid1.Coords) : k1_off38 i = ![(i 0).val % 2, (i 1).val % 8 * 640 + 0, (i 1).val / 8 * 512 + 384] :=
  forall_ci (P := fun i => k1_off38 i = ![(i 0).val % 2, (i 1).val % 8 * 640 + 0, (i 1).val / 8 * 512 + 384]) (by decide +kernel) i
instance (i : grid1.Coords) : ClosedOff (k1_off38 i) := ⟨_, off38_eq i⟩
theorem off39_eq (i : grid1.Coords) : k1_off39 i = ![(i 0).val % 2, (i 1).val % 8 * 640 + 128, (i 1).val / 8 * 512 + 384] :=
  forall_ci (P := fun i => k1_off39 i = ![(i 0).val % 2, (i 1).val % 8 * 640 + 128, (i 1).val / 8 * 512 + 384]) (by decide +kernel) i
instance (i : grid1.Coords) : ClosedOff (k1_off39 i) := ⟨_, off39_eq i⟩
theorem off40_eq (i : grid1.Coords) : k1_off40 i = ![(i 0).val % 2, (i 1).val % 8 * 640 + 256, (i 1).val / 8 * 512 + 384] :=
  forall_ci (P := fun i => k1_off40 i = ![(i 0).val % 2, (i 1).val % 8 * 640 + 256, (i 1).val / 8 * 512 + 384]) (by decide +kernel) i
instance (i : grid1.Coords) : ClosedOff (k1_off40 i) := ⟨_, off40_eq i⟩
theorem off41_eq (i : grid1.Coords) : k1_off41 i = ![(i 0).val % 2, (i 1).val % 8 * 640 + 384, (i 1).val / 8 * 512 + 384] :=
  forall_ci (P := fun i => k1_off41 i = ![(i 0).val % 2, (i 1).val % 8 * 640 + 384, (i 1).val / 8 * 512 + 384]) (by decide +kernel) i
instance (i : grid1.Coords) : ClosedOff (k1_off41 i) := ⟨_, off41_eq i⟩
theorem off42_eq (i : grid1.Coords) : k1_off42 i = ![(i 0).val % 2, (i 1).val % 8 * 640 + 512, (i 1).val / 8 * 512 + 384] :=
  forall_ci (P := fun i => k1_off42 i = ![(i 0).val % 2, (i 1).val % 8 * 640 + 512, (i 1).val / 8 * 512 + 384]) (by decide +kernel) i
instance (i : grid1.Coords) : ClosedOff (k1_off42 i) := ⟨_, off42_eq i⟩
theorem off43_eq (i : grid1.Coords) : k1_off43 i = ![((i 0).val + 1) % 2, 0, 0] :=
  forall_ci (P := fun i => k1_off43 i = ![((i 0).val + 1) % 2, 0, 0]) (by decide +kernel) i
instance (i : grid1.Coords) : ClosedOff (k1_off43 i) := ⟨_, off43_eq i⟩

theorem cond1_iff (i : grid1.Coords) : k1_cond1 i = 1#1 ↔ (i 0).val = 0 :=
  forall_ci (P := fun i => k1_cond1 i = 1#1 ↔ (i 0).val = 0) (by decide +kernel) i

theorem cond2_iff (i : grid1.Coords) : k1_cond2 i = 1#1 ↔ (i 0).val ≠ 0 :=
  forall_ci (P := fun i => k1_cond2 i = 1#1 ↔ (i 0).val ≠ 0) (by decide +kernel) i

end Cert.Proof.Kernel

end
-- ==== Proof.K.Body2.lean ====
module

public import proofs.«01_k».proof.Proof.Gen.Kernel.Launch
public import proofs.«01_k».proof.Proof.Gen.Kernel.Skeleton
public import Idealize.ShloMosaic.Lib.Tactic
public import proofs.«01_k».proof.Proof.K.Body1
public import proofs.«01_k».proof.Proof.K.Off

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The later column steps decode the next panel and multiply by the current one. -/
noncomputable def run2 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    (W8 : Bf (F := F) c arg8) ×' { W9 : Bf (F := F) c arg9 // ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 W8 ∗ pt c arg9 W9) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q } := by
  refine ⟨?_, ?_, fun E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.Kernel

end
-- ==== Proof.Scalar.lean ====
/-
  One entry of the decoded weight matrix as a function of one packed byte, one scale and one word of the sparse matrix, and
  the lemma that reads a column of sixteen-bit halves off a block of 32-bit words.
-/
module

public import Idealize.ShloMosaic.Lib.Pointwise
public import Idealize.ShloMosaic.Lib.BitcastPair

@[expose] public section

noncomputable section

namespace Cert.Proof

open Idealize.ShloMosaic

variable {F : FTy → Type} [FloatOps F]

/-- The two nibbles of a byte, each as the bits of the sixteen-bit float 136 + (nibble xor 8): the low nibble in the low half. -/
def code (q : BitVec 8) : BitVec 32 :=
  IntOp.xori (IntOp.ori (IntOp.andi (q.setWidth 32) 15#32) (IntOp.shli .vector (IntOp.andi (q.setWidth 32) 240#32) 12#32)) 1124614920#32

/-- Half `h` (0 the low one) of a word. -/
def half (w : BitVec 32) (h : ℕ) : BitVec 16 := w.extractLsb' (16 * h) 16

/-- The decoded nibble times the scale, plus the sparse entry. -/
def elt (q : BitVec 8) (sc : F .f32) (w : BitVec 32) (h : ℕ) : F .bf16 :=
  FloatOps.addf
    (FloatOps.mulf (FloatOps.subf (FloatOps.ofBits FTy.bf16 (half (code q) h)) (FloatOps.ofBits FTy.bf16 17160#16))
      (FloatOps.truncf FTy.bf16 (by decide) sc))
    (FloatOps.ofBits FTy.bf16 (half w h))

/-- A block of words read as sixteen-bit rows: row `r` is half `r % 2` of word row `r / 2`. -/
theorem bitcast_rows (x : (⟨2, ![64, 128]⟩ : Shape).Idx → BitVec 32) (h : (⟨2, ![64, 128]⟩ : Shape).Bitcasts 32 ⟨2, ![128, 128]⟩ 16)
    (r c : Fin 128) :
    bitcast ⟨2, ![128, 128]⟩ 16 x h (ix2 r c) = half (x (ix2 ⟨r.val / 2, by omega⟩ c)) (r.val % 2) := by
  have hrow : (⟨2, ![128, 128]⟩ : Shape).row (ix2 r c) = r.val := by rfl
  rw [bitcast_32_16]
  unfold half
  have e : h.srcIdx (ix2 r c) ((⟨2, ![128, 128]⟩ : Shape).row (ix2 r c) / 2) (fun a ha => by
        have := h.pos_lt (ix2 r c) 0 (by decide) a ha; omega) = ix2 ⟨r.val / 2, by omega⟩ c := by
    funext a
    apply Fin.ext
    match a with
    | ⟨0, _⟩ => rw [Shape.Bitcasts.srcIdx_row _ _ _ _ _ rfl, hrow]; rfl
    | ⟨1, _⟩ => rw [Shape.Bitcasts.srcIdx_other _ _ _ _ _ (by show ¬ (1 + 2 = 2); omega)]; rfl
  rw [e, hrow]

end Cert.Proof

end
-- ==== Proof.K.Decode.lean ====
/-
  A stored group of the decoded weight matrix, entry by entry.
-/
module

public import proofs.«01_k».proof.Proof.Gen.Kernel.Skeleton
public import proofs.«01_k».proof.Proof.Scalar
public import Idealize.ShloMosaic.Lib.Pointwise
public import Idealize.ShloMosaic.Lib.Tactic

@[expose] public section

set_option maxRecDepth 16384

noncomputable section

namespace Cert.Proof.Kernel

open Cert.Kernel Cert.Kernel.Gen
open Idealize.ShloMosaic

variable {F : FTy → Type} [FloatOps F]

theorem pay5_apply (q : Vec F S64x128 .i8) (sc : Vec F S1x1x128 .f32) (w : Vec F S1x64x128 .i32) (r : Fin 128) (c : Fin 128) :
    k1_pay5 q sc w (ix3 (0 : Fin 1) r c)
      = elt (q (ix2 ⟨r.val / 2, by omega⟩ c)) (sc (ix3 0 0 c)) (w (ix3 0 ⟨r.val / 2, by omega⟩ c)) (r.val % 2) := by
  unfold k1_pay5
  pointwise
  rw [bitcast_rows, bitcast_rows]
  pointwise
  rfl

end Cert.Proof.Kernel

end
-- ==== Proof.K.Groups.lean ====
/-
  Every stored group is the same function of the bytes, the scales and the words read for it.
-/
module

public import proofs.«01_k».proof.Proof.Gen.Kernel.Skeleton
public import Idealize.ShloMosaic.Lib.Pointwise
public import Idealize.ShloMosaic.Lib.Tactic

@[expose] public section

set_option maxRecDepth 16384

noncomputable section

namespace Cert.Proof.Kernel

open Cert.Kernel Cert.Kernel.Gen
open Idealize.ShloMosaic

variable {F : FTy → Type} [FloatOps F]

theorem grp1_0 (q : Vec F S64x128 .i8) (sc : Vec F S1x1x128 .f32) (w : Vec F S1x64x128 .i32) : k1_pay4 (k1_pay3 q sc w) = k1_pay5 q sc w := rfl
theorem grp1_2 (q : Vec F S64x128 .i8) (sc : Vec F S1x1x128 .f32) (w : Vec F S1x64x128 .i32) : k1_pay8 (k1_pay6 q) (k1_pay7 q) 240#32 sc w = k1_pay5 q sc w := rfl
theorem grp1_3 (q : Vec F S64x128 .i8) (sc : Vec F S1x1x128 .f32) (w : Vec F S1x64x128 .i32) : k1_pay10 (k1_pay9 q) sc w = k1_pay5 q sc w := rfl
theorem grp1_4 (q : Vec F S64x128 .i8) (sc : Vec F S1x1x128 .f32) (w : Vec F S1x64x128 .i32) : k1_pay12 (k1_pay11 q sc w) = k1_pay5 q sc w := rfl
theorem grp1_5 (q : Vec F S64x128 .i8) (sc : Vec F S1x1x128 .f32) (w : Vec F S1x64x128 .i32) : k1_pay13 q sc w = k1_pay5 q sc w := rfl
theorem grp1_6 (q : Vec F S64x128 .i8) (sc : Vec F S1x1x128 .f32) (w : Vec F S1x64x128 .i32) : k1_pay16 (k1_pay14 q) (k1_pay15 q) 240#32 sc w = k1_pay5 q sc w := rfl
theorem grp1_7 (q : Vec F S64x128 .i8) (sc : Vec F S1x1x128 .f32) (w : Vec F S1x64x128 .i32) : k1_pay18 (k1_pay17 q) sc w = k1_pay5 q sc w := rfl
theorem grp1_8 (q : Vec F S64x128 .i8) (sc : Vec F S1x1x128 .f32) (w : Vec F S1x64x128 .i32) : k1_pay20 (k1_pay19 q sc w) = k1_pay5 q sc w := rfl
theorem grp1_9 (q : Vec F S64x128 .i8) (sc : Vec F S1x1x128 .f32) (w : Vec F S1x64x128 .i32) : k1_pay21 q sc w = k1_pay5 q sc w := rfl
theorem grp1_10 (q : Vec F S64x128 .i8) (sc : Vec F S1x1x128 .f32) (w : Vec F S1x64x128 .i32) : k1_pay24 (k1_pay22 q) (k1_pay23 q) 240#32 sc w = k1_pay5 q sc w := rfl
theorem grp1_11 (q : Vec F S64x128 .i8) (sc : Vec F S1x1x128 .f32) (w : Vec F S1x64x128 .i32) : k1_pay26 (k1_pay25 q) sc w = k1_pay5 q sc w := rfl
theorem grp1_12 (q : Vec F S64x128 .i8) (sc : Vec F S1x1x128 .f32) (w : Vec F S1x64x128 .i32) : k1_pay28 (k1_pay27 q sc w) = k1_pay5 q sc w := rfl
theorem grp1_13 (q : Vec F S64x128 .i8) (sc : Vec F S1x1x128 .f32) (w : Vec F S1x64x128 .i32) : k1_pay29 q sc w = k1_pay5 q sc w := rfl
theorem grp1_14 (q : Vec F S64x128 .i8) (sc : Vec F S1x1x128 .f32) (w : Vec F S1x64x128 .i32) : k1_pay32 (k1_pay30 q) (k1_pay31 q) 240#32 sc w = k1_pay5 q sc w := rfl
theorem grp1_15 (q : Vec F S64x128 .i8) (sc : Vec F S1x1x128 .f32) (w : Vec F S1x64x128 .i32) : k1_pay34 (k1_pay33 q) sc w = k1_pay5 q sc w := rfl
theorem grp1_16 (q : Vec F S64x128 .i8) (sc : Vec F S1x1x128 .f32) (w : Vec F S1x64x128 .i32) : k1_pay36 (k1_pay35 q sc w) = k1_pay5 q sc w := rfl
theorem grp1_17 (q : Vec F S64x128 .i8) (sc : Vec F S1x1x128 .f32) (w : Vec F S1x64x128 .i32) : k1_pay37 q sc w = k1_pay5 q sc w := rfl
theorem grp1_18 (q : Vec F S64x128 .i8) (sc : Vec F S1x1x128 .f32) (w : Vec F S1x64x128 .i32) : k1_pay40 (k1_pay38 q) (k1_pay39 q) 240#32 sc w = k1_pay5 q sc w := rfl
theorem grp1_19 (q : Vec F S64x128 .i8) (sc : Vec F S1x1x128 .f32) (w : Vec F S1x64x128 .i32) : k1_pay1 (k1_pay41 q) sc w = k1_pay5 q sc w := rfl
theorem grp2_0 (q : Vec F S64x128 .i8) (sc : Vec F S1x1x128 .f32) (w : Vec F S1x64x128 .i32) : k1_pay43 (k1_pay42 q sc w) = k1_pay5 q sc w := rfl
theorem grp2_1 (q : Vec F S64x128 .i8) (sc : Vec F S1x1x128 .f32) (w : Vec F S1x64x128 .i32) : k1_pay44 q sc w = k1_pay5 q sc w := rfl
theorem grp2_2 (q : Vec F S64x128 .i8) (sc : Vec F S1x1x128 .f32) (w : Vec F S1x64x128 .i32) : k1_pay47 (k1_pay45 q) (k1_pay46 q) 240#32 sc w = k1_pay5 q sc w := rfl
theorem grp2_3 (q : Vec F S64x128 .i8) (sc : Vec F S1x1x128 .f32) (w : Vec F S1x64x128 .i32) : k1_pay49 (k1_pay48 q) sc w = k1_pay5 q sc w := rfl
theorem grp2_4 (q : Vec F S64x128 .i8) (sc : Vec F S1x1x128 .f32) (w : Vec F S1x64x128 .i32) : k1_pay51 (k1_pay50 q sc w) = k1_pay5 q sc w := rfl
theorem grp2_5 (q : Vec F S64x128 .i8) (sc : Vec F S1x1x128 .f32) (w : Vec F S1x64x128 .i32) : k1_pay52 q sc w = k1_pay5 q sc w := rfl
theorem grp2_6 (q : Vec F S64x128 .i8) (sc : Vec F S1x1x128 .f32) (w : Vec F S1x64x128 .i32) : k1_pay55 (k1_pay53 q) (k1_pay54 q) 240#32 sc w = k1_pay5 q sc w := rfl
theorem grp2_7 (q : Vec F S64x128 .i8) (sc : Vec F S1x1x128 .f32) (w : Vec F S1x64x128 .i32) : k1_pay57 (k1_pay56 q) sc w = k1_pay5 q sc w := rfl
theorem grp2_8 (q : Vec F S64x128 .i8) (sc : Vec F S1x1x128 .f32) (w : Vec F S1x64x128 .i32) : k1_pay59 (k1_pay58 q sc w) = k1_pay5 q sc w := rfl
theorem grp2_9 (q : Vec F S64x128 .i8) (sc : Vec F S1x1x128 .f32) (w : Vec F S1x64x128 .i32) : k1_pay60 q sc w = k1_pay5 q sc w := rfl
theorem grp2_10 (q : Vec F S64x128 .i8) (sc : Vec F S1x1x128 .f32) (w : Vec F S1x64x128 .i32) : k1_pay63 (k1_pay61 q) (k1_pay62 q) 240#32 sc w = k1_pay5 q sc w := rfl
theorem grp2_11 (q : Vec F S64x128 .i8) (sc : Vec F S1x1x128 .f32) (w : Vec F S1x64x128 .i32) : k1_pay65 (k1_pay64 q) sc w = k1_pay5 q sc w := rfl
theorem grp2_12 (q : Vec F S64x128 .i8) (sc : Vec F S1x1x128 .f32) (w : Vec F S1x64x128 .i32) : k1_pay67 (k1_pay66 q sc w) = k1_pay5 q sc w := rfl
theorem grp2_13 (q : Vec F S64x128 .i8) (sc : Vec F S1x1x128 .f32) (w : Vec F S1x64x128 .i32) : k1_pay68 q sc w = k1_pay5 q sc w := rfl
theorem grp2_14 (q : Vec F S64x128 .i8) (sc : Vec F S1x1x128 .f32) (w : Vec F S1x64x128 .i32) : k1_pay71 (k1_pay69 q) (k1_pay70 q) 240#32 sc w = k1_pay5 q sc w := rfl
theorem grp2_15 (q : Vec F S64x128 .i8) (sc : Vec F S1x1x128 .f32) (w : Vec F S1x64x128 .i32) : k1_pay73 (k1_pay72 q) sc w = k1_pay5 q sc w := rfl
theorem grp2_16 (q : Vec F S64x128 .i8) (sc : Vec F S1x1x128 .f32) (w : Vec F S1x64x128 .i32) : k1_pay75 (k1_pay74 q sc w) = k1_pay5 q sc w := rfl
theorem grp2_17 (q : Vec F S64x128 .i8) (sc : Vec F S1x1x128 .f32) (w : Vec F S1x64x128 .i32) : k1_pay76 q sc w = k1_pay5 q sc w := rfl
theorem grp2_18 (q : Vec F S64x128 .i8) (sc : Vec F S1x1x128 .f32) (w : Vec F S1x64x128 .i32) : k1_pay79 (k1_pay77 q) (k1_pay78 q) 240#32 sc w = k1_pay5 q sc w := rfl
theorem grp2_19 (q : Vec F S64x128 .i8) (sc : Vec F S1x1x128 .f32) (w : Vec F S1x64x128 .i32) : k1_pay81 (k1_pay80 q) sc w = k1_pay5 q sc w := rfl

end Cert.Proof.Kernel

end
-- ==== Proof.K.Pieces.lean ====
/-
  The twenty groups a point of the second call stores, and what the scratch buffer reads as after them.
-/
module

public import proofs.«01_k».proof.Proof.K.Body2
public import proofs.«01_k».proof.Proof.K.Decode
public import proofs.«01_k».proof.Proof.K.Groups

@[expose] public section

set_option maxRecDepth 16384

noncomputable section

namespace Cert.Proof.Kernel

open Cert.Kernel Cert.Kernel.Gen
open Idealize.ShloMosaic Idealize.ShloMosaic.TcCoe

variable {F : FTy → Type} [FloatOps F]

theorem inb4 (g c : ℕ) (hg : g < 5) (hc : c < 4) : ∀ a, (![64 * g, 128 * c] : Fin 2 → ℕ) a + S64x128.size a ≤ S320x512.size a := by
  intro a; fin_cases a
  · show 64 * g + 64 ≤ 320; omega
  · show 128 * c + 128 ≤ 512; omega
theorem inb5 (g c : ℕ) (hg : g < 5) (hc : c < 4) : ∀ a, (![0, g, 128 * c] : Fin 3 → ℕ) a + S1x1x128.size a ≤ S1x5x512.size a := by
  intro a; fin_cases a
  · show 0 + 1 ≤ 1; omega
  · show g + 1 ≤ 5; omega
  · show 128 * c + 128 ≤ 512; omega
theorem inb6 (g c : ℕ) (hg : g < 5) (hc : c < 4) : ∀ a, (![c, 64 * g, 0] : Fin 3 → ℕ) a + S1x64x128.size a ≤ S4x320x128.size a := by
  intro a; fin_cases a
  · show c + 1 ≤ 4; omega
  · show 64 * g + 64 ≤ 320; omega
  · show 0 + 128 ≤ 128; omega

/-- Group `(g, c)` stored at an offset: 128 rows by 128 columns. -/
def piece {d : Dev nD} (arg4 : Memref sig .tc .vmem S320x512 .i8) (arg5 : Memref sig .tc .vmem S1x5x512 .f32) (arg6 : Memref sig .tc .vmem S4x320x128 .i32)
    (f4 : Bf (F := F) d arg4) (f5 : Bf (F := F) d arg5) (f6 : Bf (F := F) d arg6) (off : Fin 3 → ℕ) (inb : ∀ a, off a + S1x128x128.size a ≤ S2x5120x1536.size a)
    (g c : ℕ) (hg : g < 5) (hc : c < 4) : View.Piece (Elt F) S2x5120x1536 .bf16 :=
  ⟨Rect.unit off S1x128x128.size inb,
    k1_pay5 (View.readAt (Elt F) arg4.view (Rect.unit (s := S320x512) ![64 * g, 128 * c] S64x128.size (inb4 g c hg hc)).toLoadRect f4)
      (View.readAt (Elt F) arg5.view (Rect.unit (s := S1x5x512) ![0, g, 128 * c] S1x1x128.size (inb5 g c hg hc)).toLoadRect f5)
      (View.readAt (Elt F) arg6.view (Rect.unit (s := S4x320x128) ![c, 64 * g, 0] S1x64x128.size (inb6 g c hg hc)).toLoadRect f6)⟩

section
variable {d : Dev nD} (i : grid1.Coords) (arg4 : Memref sig .tc .vmem S320x512 .i8) (arg5 : Memref sig .tc .vmem S1x5x512 .f32) (arg6 : Memref sig .tc .vmem S4x320x128 .i32)
    (f4 : Bf (F := F) d arg4) (f5 : Bf (F := F) d arg5) (f6 : Bf (F := F) d arg6)

/-- The groups of the first column step, last one first. -/
def pieces1 (hc1 : k1_cond1 i = 1#1) : List (View.Piece (Elt F) S2x5120x1536 .bf16) :=
  [piece arg4 arg5 arg6 f4 f5 f6 (k1_off21 i) (k1_off21_inb i hc1) 4 3 (by omega) (by omega),
    piece arg4 arg5 arg6 f4 f5 f6 (k1_off20 i) (k1_off20_inb i hc1) 3 3 (by omega) (by omega),
    piece arg4 arg5 arg6 f4 f5 f6 (k1_off19 i) (k1_off19_inb i hc1) 2 3 (by omega) (by omega),
    piece arg4 arg5 arg6 f4 f5 f6 (k1_off18 i) (k1_off18_inb i hc1) 1 3 (by omega) (by omega),
    piece arg4 arg5 arg6 f4 f5 f6 (k1_off17 i) (k1_off17_inb i hc1) 0 3 (by omega) (by omega),
    piece arg4 arg5 arg6 f4 f5 f6 (k1_off16 i) (k1_off16_inb i hc1) 4 2 (by omega) (by omega),
    piece arg4 arg5 arg6 f4 f5 f6 (k1_off15 i) (k1_off15_inb i hc1) 3 2 (by omega) (by omega),
    piece arg4 arg5 arg6 f4 f5 f6 (k1_off14 i) (k1_off14_inb i hc1) 2 2 (by omega) (by omega),
    piece arg4 arg5 arg6 f4 f5 f6 (k1_off13 i) (k1_off13_inb i hc1) 1 2 (by omega) (by omega),
    piece arg4 arg5 arg6 f4 f5 f6 (k1_off12 i) (k1_off12_inb i hc1) 0 2 (by omega) (by omega),
    piece arg4 arg5 arg6 f4 f5 f6 (k1_off11 i) (k1_off11_inb i hc1) 4 1 (by omega) (by omega),
    piece arg4 arg5 arg6 f4 f5 f6 (k1_off10 i) (k1_off10_inb i hc1) 3 1 (by omega) (by omega),
    piece arg4 arg5 arg6 f4 f5 f6 (k1_off9 i) (k1_off9_inb i hc1) 2 1 (by omega) (by omega),
    piece arg4 arg5 arg6 f4 f5 f6 (k1_off8 i) (k1_off8_inb i hc1) 1 1 (by omega) (by omega),
    piece arg4 arg5 arg6 f4 f5 f6 (k1_off7 i) (k1_off7_inb i hc1) 0 1 (by omega) (by omega),
    piece arg4 arg5 arg6 f4 f5 f6 (k1_off6 i) (k1_off6_inb i hc1) 4 0 (by omega) (by omega),
    piece arg4 arg5 arg6 f4 f5 f6 (k1_off5 i) (k1_off5_inb i hc1) 3 0 (by omega) (by omega),
    piece arg4 arg5 arg6 f4 f5 f6 (k1_off4 i) (k1_off4_inb i hc1) 2 0 (by omega) (by omega),
    piece arg4 arg5 arg6 f4 f5 f6 (k1_off3 i) (k1_off3_inb i hc1) 1 0 (by omega) (by omega),
    piece arg4 arg5 arg6 f4 f5 f6 (k1_off2 i) (k1_off2_inb i hc1) 0 0 (by omega) (by omega)]

/-- The groups of a later column step. -/
def pieces2 (hc2 : k1_cond2 i = 1#1) : List (View.Piece (Elt F) S2x5120x1536 .bf16) :=
  [piece arg4 arg5 arg6 f4 f5 f6 (k1_off42 i) (k1_off42_inb i hc2) 4 3 (by omega) (by omega),
    piece arg4 arg5 arg6 f4 f5 f6 (k1_off41 i) (k1_off41_inb i hc2) 3 3 (by omega) (by omega),
    piece arg4 arg5 arg6 f4 f5 f6 (k1_off40 i) (k1_off40_inb i hc2) 2 3 (by omega) (by omega),
    piece arg4 arg5 arg6 f4 f5 f6 (k1_off39 i) (k1_off39_inb i hc2) 1 3 (by omega) (by omega),
    piece arg4 arg5 arg6 f4 f5 f6 (k1_off38 i) (k1_off38_inb i hc2) 0 3 (by omega) (by omega),
    piece arg4 arg5 arg6 f4 f5 f6 (k1_off37 i) (k1_off37_inb i hc2) 4 2 (by omega) (by omega),
    piece arg4 arg5 arg6 f4 f5 f6 (k1_off36 i) (k1_off36_inb i hc2) 3 2 (by omega) (by omega),
    piece arg4 arg5 arg6 f4 f5 f6 (k1_off35 i) (k1_off35_inb i hc2) 2 2 (by omega) (by omega),
    piece arg4 arg5 arg6 f4 f5 f6 (k1_off34 i) (k1_off34_inb i hc2) 1 2 (by omega) (by omega),
    piece arg4 arg5 arg6 f4 f5 f6 (k1_off33 i) (k1_off33_inb i hc2) 0 2 (by omega) (by omega),
    piece arg4 arg5 arg6 f4 f5 f6 (k1_off32 i) (k1_off32_inb i hc2) 4 1 (by omega) (by omega),
    piece arg4 arg5 arg6 f4 f5 f6 (k1_off31 i) (k1_off31_inb i hc2) 3 1 (by omega) (by omega),
    piece arg4 arg5 arg6 f4 f5 f6 (k1_off30 i) (k1_off30_inb i hc2) 2 1 (by omega) (by omega),
    piece arg4 arg5 arg6 f4 f5 f6 (k1_off29 i) (k1_off29_inb i hc2) 1 1 (by omega) (by omega),
    piece arg4 arg5 arg6 f4 f5 f6 (k1_off28 i) (k1_off28_inb i hc2) 0 1 (by omega) (by omega),
    piece arg4 arg5 arg6 f4 f5 f6 (k1_off27 i) (k1_off27_inb i hc2) 4 0 (by omega) (by omega),
    piece arg4 arg5 arg6 f4 f5 f6 (k1_off26 i) (k1_off26_inb i hc2) 3 0 (by omega) (by omega),
    piece arg4 arg5 arg6 f4 f5 f6 (k1_off25 i) (k1_off25_inb i hc2) 2 0 (by omega) (by omega),
    piece arg4 arg5 arg6 f4 f5 f6 (k1_off24 i) (k1_off24_inb i hc2) 1 0 (by omega) (by omega),
    piece arg4 arg5 arg6 f4 f5 f6 (k1_off23 i) (k1_off23_inb i hc2) 0 0 (by omega) (by omega)]

theorem pieces1_run (hc1 : k1_cond1 i = 1#1) : run1.sl.H9_19 d i arg4 arg5 arg6 hc1 f4 f5 f6 = (pieces1 i arg4 arg5 arg6 f4 f5 f6 hc1).tail := rfl
theorem pieces2_run (hc2 : k1_cond2 i = 1#1) : run2.sl.H9_20 d i arg4 arg5 arg6 hc2 f4 f5 f6 = pieces2 i arg4 arg5 arg6 f4 f5 f6 hc2 := rfl

/-- The offset of group `(g, c)` at a point. -/
abbrev goff (g c : ℕ) : Fin 3 → ℕ := ![(i 0).val % 2, (i 1).val % 8 * 640 + 128 * g, (i 1).val / 8 * 512 + 128 * c]

theorem pieces1_all (hc1 : k1_cond1 i = 1#1) (P : View.Piece (Elt F) S2x5120x1536 .bf16 → Prop)
    (h : ∀ off inb g c hg hc, off = goff i g c → P (piece arg4 arg5 arg6 f4 f5 f6 off inb g c hg hc)) : ∀ p ∈ pieces1 i arg4 arg5 arg6 f4 f5 f6 hc1, P p := by
  unfold pieces1
  simp only [List.forall_mem_cons]
  exact ⟨h _ _ _ _ _ _ (off21_eq i), h _ _ _ _ _ _ (off20_eq i), h _ _ _ _ _ _ (off19_eq i), h _ _ _ _ _ _ (off18_eq i), h _ _ _ _ _ _ (off17_eq i), h _ _ _ _ _ _ (off16_eq i), h _ _ _ _ _ _ (off15_eq i), h _ _ _ _ _ _ (off14_eq i), h _ _ _ _ _ _ (off13_eq i), h _ _ _ _ _ _ (off12_eq i), h _ _ _ _ _ _ (off11_eq i), h _ _ _ _ _ _ (off10_eq i), h _ _ _ _ _ _ (off9_eq i), h _ _ _ _ _ _ (off8_eq i), h _ _ _ _ _ _ (off7_eq i), h _ _ _ _ _ _ (off6_eq i), h _ _ _ _ _ _ (off5_eq i), h _ _ _ _ _ _ (off4_eq i), h _ _ _ _ _ _ (off3_eq i), h _ _ _ _ _ _ (off2_eq i), fun p hp => absurd hp List.not_mem_nil⟩

theorem pieces1_ex (hc1 : k1_cond1 i = 1#1) (g c : ℕ) (hg : g < 5) (hc : c < 4) :
    ∃ off inb, off = goff i g c ∧ piece arg4 arg5 arg6 f4 f5 f6 off inb g c hg hc ∈ pieces1 i arg4 arg5 arg6 f4 f5 f6 hc1 := by
  match g, c with
  | 0, 0 => exact ⟨_, _, off2_eq i, List.getElem_mem (l := pieces1 i arg4 arg5 arg6 f4 f5 f6 hc1) (n := 19) (show 19 < 20 by omega)⟩
  | 1, 0 => exact ⟨_, _, off3_eq i, List.getElem_mem (l := pieces1 i arg4 arg5 arg6 f4 f5 f6 hc1) (n := 18) (show 18 < 20 by omega)⟩
  | 2, 0 => exact ⟨_, _, off4_eq i, List.getElem_mem (l := pieces1 i arg4 arg5 arg6 f4 f5 f6 hc1) (n := 17) (show 17 < 20 by omega)⟩
  | 3, 0 => exact ⟨_, _, off5_eq i, List.getElem_mem (l := pieces1 i arg4 arg5 arg6 f4 f5 f6 hc1) (n := 16) (show 16 < 20 by omega)⟩
  | 4, 0 => exact ⟨_, _, off6_eq i, List.getElem_mem (l := pieces1 i arg4 arg5 arg6 f4 f5 f6 hc1) (n := 15) (show 15 < 20 by omega)⟩
  | 0, 1 => exact ⟨_, _, off7_eq i, List.getElem_mem (l := pieces1 i arg4 arg5 arg6 f4 f5 f6 hc1) (n := 14) (show 14 < 20 by omega)⟩
  | 1, 1 => exact ⟨_, _, off8_eq i, List.getElem_mem (l := pieces1 i arg4 arg5 arg6 f4 f5 f6 hc1) (n := 13) (show 13 < 20 by omega)⟩
  | 2, 1 => exact ⟨_, _, off9_eq i, List.getElem_mem (l := pieces1 i arg4 arg5 arg6 f4 f5 f6 hc1) (n := 12) (show 12 < 20 by omega)⟩
  | 3, 1 => exact ⟨_, _, off10_eq i, List.getElem_mem (l := pieces1 i arg4 arg5 arg6 f4 f5 f6 hc1) (n := 11) (show 11 < 20 by omega)⟩
  | 4, 1 => exact ⟨_, _, off11_eq i, List.getElem_mem (l := pieces1 i arg4 arg5 arg6 f4 f5 f6 hc1) (n := 10) (show 10 < 20 by omega)⟩
  | 0, 2 => exact ⟨_, _, off12_eq i, List.getElem_mem (l := pieces1 i arg4 arg5 arg6 f4 f5 f6 hc1) (n := 9) (show 9 < 20 by omega)⟩
  | 1, 2 => exact ⟨_, _, off13_eq i, List.getElem_mem (l := pieces1 i arg4 arg5 arg6 f4 f5 f6 hc1) (n := 8) (show 8 < 20 by omega)⟩
  | 2, 2 => exact ⟨_, _, off14_eq i, List.getElem_mem (l := pieces1 i arg4 arg5 arg6 f4 f5 f6 hc1) (n := 7) (show 7 < 20 by omega)⟩
  | 3, 2 => exact ⟨_, _, off15_eq i, List.getElem_mem (l := pieces1 i arg4 arg5 arg6 f4 f5 f6 hc1) (n := 6) (show 6 < 20 by omega)⟩
  | 4, 2 => exact ⟨_, _, off16_eq i, List.getElem_mem (l := pieces1 i arg4 arg5 arg6 f4 f5 f6 hc1) (n := 5) (show 5 < 20 by omega)⟩
  | 0, 3 => exact ⟨_, _, off17_eq i, List.getElem_mem (l := pieces1 i arg4 arg5 arg6 f4 f5 f6 hc1) (n := 4) (show 4 < 20 by omega)⟩
  | 1, 3 => exact ⟨_, _, off18_eq i, List.getElem_mem (l := pieces1 i arg4 arg5 arg6 f4 f5 f6 hc1) (n := 3) (show 3 < 20 by omega)⟩
  | 2, 3 => exact ⟨_, _, off19_eq i, List.getElem_mem (l := pieces1 i arg4 arg5 arg6 f4 f5 f6 hc1) (n := 2) (show 2 < 20 by omega)⟩
  | 3, 3 => exact ⟨_, _, off20_eq i, List.getElem_mem (l := pieces1 i arg4 arg5 arg6 f4 f5 f6 hc1) (n := 1) (show 1 < 20 by omega)⟩
  | 4, 3 => exact ⟨_, _, off21_eq i, List.getElem_mem (l := pieces1 i arg4 arg5 arg6 f4 f5 f6 hc1) (n := 0) (show 0 < 20 by omega)⟩
  | g + 5, _ => omega
  | _, c + 4 => omega

theorem pieces2_all (hc2 : k1_cond2 i = 1#1) (P : View.Piece (Elt F) S2x5120x1536 .bf16 → Prop)
    (h : ∀ off inb g c hg hc, off = goff i g c → P (piece arg4 arg5 arg6 f4 f5 f6 off inb g c hg hc)) : ∀ p ∈ pieces2 i arg4 arg5 arg6 f4 f5 f6 hc2, P p := by
  unfold pieces2
  simp only [List.forall_mem_cons]
  exact ⟨h _ _ _ _ _ _ (off42_eq i), h _ _ _ _ _ _ (off41_eq i), h _ _ _ _ _ _ (off40_eq i), h _ _ _ _ _ _ (off39_eq i), h _ _ _ _ _ _ (off38_eq i), h _ _ _ _ _ _ (off37_eq i), h _ _ _ _ _ _ (off36_eq i), h _ _ _ _ _ _ (off35_eq i), h _ _ _ _ _ _ (off34_eq i), h _ _ _ _ _ _ (off33_eq i), h _ _ _ _ _ _ (off32_eq i), h _ _ _ _ _ _ (off31_eq i), h _ _ _ _ _ _ (off30_eq i), h _ _ _ _ _ _ (off29_eq i), h _ _ _ _ _ _ (off28_eq i), h _ _ _ _ _ _ (off27_eq i), h _ _ _ _ _ _ (off26_eq i), h _ _ _ _ _ _ (off25_eq i), h _ _ _ _ _ _ (off24_eq i), h _ _ _ _ _ _ (off23_eq i), fun p hp => absurd hp List.not_mem_nil⟩

theorem pieces2_ex (hc2 : k1_cond2 i = 1#1) (g c : ℕ) (hg : g < 5) (hc : c < 4) :
    ∃ off inb, off = goff i g c ∧ piece arg4 arg5 arg6 f4 f5 f6 off inb g c hg hc ∈ pieces2 i arg4 arg5 arg6 f4 f5 f6 hc2 := by
  match g, c with
  | 0, 0 => exact ⟨_, _, off23_eq i, List.getElem_mem (l := pieces2 i arg4 arg5 arg6 f4 f5 f6 hc2) (n := 19) (show 19 < 20 by omega)⟩
  | 1, 0 => exact ⟨_, _, off24_eq i, List.getElem_mem (l := pieces2 i arg4 arg5 arg6 f4 f5 f6 hc2) (n := 18) (show 18 < 20 by omega)⟩
  | 2, 0 => exact ⟨_, _, off25_eq i, List.getElem_mem (l := pieces2 i arg4 arg5 arg6 f4 f5 f6 hc2) (n := 17) (show 17 < 20 by omega)⟩
  | 3, 0 => exact ⟨_, _, off26_eq i, List.getElem_mem (l := pieces2 i arg4 arg5 arg6 f4 f5 f6 hc2) (n := 16) (show 16 < 20 by omega)⟩
  | 4, 0 => exact ⟨_, _, off27_eq i, List.getElem_mem (l := pieces2 i arg4 arg5 arg6 f4 f5 f6 hc2) (n := 15) (show 15 < 20 by omega)⟩
  | 0, 1 => exact ⟨_, _, off28_eq i, List.getElem_mem (l := pieces2 i arg4 arg5 arg6 f4 f5 f6 hc2) (n := 14) (show 14 < 20 by omega)⟩
  | 1, 1 => exact ⟨_, _, off29_eq i, List.getElem_mem (l := pieces2 i arg4 arg5 arg6 f4 f5 f6 hc2) (n := 13) (show 13 < 20 by omega)⟩
  | 2, 1 => exact ⟨_, _, off30_eq i, List.getElem_mem (l := pieces2 i arg4 arg5 arg6 f4 f5 f6 hc2) (n := 12) (show 12 < 20 by omega)⟩
  | 3, 1 => exact ⟨_, _, off31_eq i, List.getElem_mem (l := pieces2 i arg4 arg5 arg6 f4 f5 f6 hc2) (n := 11) (show 11 < 20 by omega)⟩
  | 4, 1 => exact ⟨_, _, off32_eq i, List.getElem_mem (l := pieces2 i arg4 arg5 arg6 f4 f5 f6 hc2) (n := 10) (show 10 < 20 by omega)⟩
  | 0, 2 => exact ⟨_, _, off33_eq i, List.getElem_mem (l := pieces2 i arg4 arg5 arg6 f4 f5 f6 hc2) (n := 9) (show 9 < 20 by omega)⟩
  | 1, 2 => exact ⟨_, _, off34_eq i, List.getElem_mem (l := pieces2 i arg4 arg5 arg6 f4 f5 f6 hc2) (n := 8) (show 8 < 20 by omega)⟩
  | 2, 2 => exact ⟨_, _, off35_eq i, List.getElem_mem (l := pieces2 i arg4 arg5 arg6 f4 f5 f6 hc2) (n := 7) (show 7 < 20 by omega)⟩
  | 3, 2 => exact ⟨_, _, off36_eq i, List.getElem_mem (l := pieces2 i arg4 arg5 arg6 f4 f5 f6 hc2) (n := 6) (show 6 < 20 by omega)⟩
  | 4, 2 => exact ⟨_, _, off37_eq i, List.getElem_mem (l := pieces2 i arg4 arg5 arg6 f4 f5 f6 hc2) (n := 5) (show 5 < 20 by omega)⟩
  | 0, 3 => exact ⟨_, _, off38_eq i, List.getElem_mem (l := pieces2 i arg4 arg5 arg6 f4 f5 f6 hc2) (n := 4) (show 4 < 20 by omega)⟩
  | 1, 3 => exact ⟨_, _, off39_eq i, List.getElem_mem (l := pieces2 i arg4 arg5 arg6 f4 f5 f6 hc2) (n := 3) (show 3 < 20 by omega)⟩
  | 2, 3 => exact ⟨_, _, off40_eq i, List.getElem_mem (l := pieces2 i arg4 arg5 arg6 f4 f5 f6 hc2) (n := 2) (show 2 < 20 by omega)⟩
  | 3, 3 => exact ⟨_, _, off41_eq i, List.getElem_mem (l := pieces2 i arg4 arg5 arg6 f4 f5 f6 hc2) (n := 1) (show 1 < 20 by omega)⟩
  | 4, 3 => exact ⟨_, _, off42_eq i, List.getElem_mem (l := pieces2 i arg4 arg5 arg6 f4 f5 f6 hc2) (n := 0) (show 0 < 20 by omega)⟩
  | g + 5, _ => omega
  | _, c + 4 => omega

/-- What the groups hold: every entry the decoded value of its byte, its scale and its word. -/
def blkG (q : S320x512.Idx → Elt F .i8) (sc : S1x5x512.Idx → Elt F .f32) (w : S4x320x128.Idx → Elt F .i32) (y : S2x5120x1536.Idx) : Elt F .bf16 :=
  elt (q (ix2 ⟨(y 1).val % 640 / 2, by omega⟩ ⟨(y 2).val % 512, by omega⟩))
    (sc (ix3 0 ⟨(y 1).val % 640 / 128, by omega⟩ ⟨(y 2).val % 512, by omega⟩))
    (w (ix3 ⟨(y 2).val % 512 / 128, by omega⟩ ⟨(y 1).val % 640 / 2, by omega⟩ ⟨(y 2).val % 128, by omega⟩)) ((y 1).val % 2)

theorem pay5_at (q : Vec F S64x128 .i8) (sc : Vec F S1x1x128 .f32) (w : Vec F S1x64x128 .i32) (x : S1x128x128.Idx) :
    k1_pay5 q sc w x = elt (q (ix2 ⟨(x 1).val / 2, Nat.div_lt_of_lt_mul (x 1).isLt⟩ (x 2 : Fin 128))) (sc (ix3 0 0 (x 2 : Fin 128)))
      (w (ix3 0 ⟨(x 1).val / 2, Nat.div_lt_of_lt_mul (x 1).isLt⟩ (x 2 : Fin 128))) ((x 1).val % 2) := by
  have hx : x = (ix3 (0 : Fin 1) (x 1 : Fin 128) (x 2 : Fin 128) : S1x128x128.Idx) := by
    funext a
    match a with
    | ⟨0, _⟩ => exact Subsingleton.elim (α := Fin 1) _ _
    | ⟨1, _⟩ => rfl
    | ⟨2, _⟩ => rfl
  exact (congrArg (k1_pay5 q sc w) hx).trans (pay5_apply q sc w (x 1) (x 2))

theorem piece_agree (off : Fin 3 → ℕ) (inb : ∀ a, off a + S1x128x128.size a ≤ S2x5120x1536.size a) (g c : ℕ) (hg : g < 5) (hc : c < 4)
    (hoff : off = goff i g c) (x : S1x128x128.Idx) :
    (piece arg4 arg5 arg6 f4 f5 f6 off inb g c hg hc).2 x
      = blkG (arg4.view.read (Elt F) f4) (arg5.view.read (Elt F) f5) (arg6.view.read (Elt F) f6) ((piece arg4 arg5 arg6 f4 f5 f6 off inb g c hg hc).1.emb x) := by
  subst hoff
  have h1 : ((piece arg4 arg5 arg6 f4 f5 f6 (goff i g c) inb g c hg hc).1.emb x 1).val = (i 1).val % 8 * 640 + 128 * g + 1 * (x 1).val := rfl
  have h2 : ((piece arg4 arg5 arg6 f4 f5 f6 (goff i g c) inb g c hg hc).1.emb x 2).val = (i 1).val / 8 * 512 + 128 * c + 1 * (x 2).val := rfl
  have hr : (x 1).val < 128 := (x 1).isLt
  have hcc : (x 2).val < 128 := (x 2).isLt
  unfold blkG
  refine (pay5_at _ _ _ x).trans ?_
  congr 1
  · refine congrArg (arg4.view.read (Elt F) f4) (funext fun a => Fin.ext ?_)
    match a with
    | ⟨0, _⟩ => show 64 * g + 1 * ((x 1).val / 2) = _ % 640 / 2; rw [h1]; omega
    | ⟨1, _⟩ => show 128 * c + 1 * (x 2).val = _ % 512; rw [h2]; omega
  · refine congrArg (arg5.view.read (Elt F) f5) (funext fun a => Fin.ext ?_)
    match a with
    | ⟨0, _⟩ => rfl
    | ⟨1, _⟩ => show g + 1 * 0 = _ % 640 / 128; rw [h1]; omega
    | ⟨2, _⟩ => show 128 * c + 1 * (x 2).val = _ % 512; rw [h2]; omega
  · refine congrArg (arg6.view.read (Elt F) f6) (funext fun a => Fin.ext ?_)
    match a with
    | ⟨0, _⟩ => show c + 1 * 0 = _ % 512 / 128; rw [h2]; omega
    | ⟨1, _⟩ => show 64 * g + 1 * ((x 1).val / 2) = _ % 640 / 2; rw [h1]; omega
    | ⟨2, _⟩ => show 0 + 1 * (x 2).val = _ % 128; rw [h2]; omega
  · rw [h1]; omega

/-- The part of the scratch buffer a point writes. -/
def inBlk (y : S2x5120x1536.Idx) : Prop := (y 0).val = (i 0).val % 2 ∧ (y 1).val / 640 = (i 1).val % 8 ∧ (y 2).val / 512 = (i 1).val / 8

instance (y : S2x5120x1536.Idx) : Decidable (inBlk i y) := by unfold inBlk; infer_instance

theorem piece_mem (off : Fin 3 → ℕ) (inb : ∀ a, off a + S1x128x128.size a ≤ S2x5120x1536.size a) (g c : ℕ) (hg : g < 5) (hc : c < 4)
    (hoff : off = goff i g c) (y : S2x5120x1536.Idx) :
    y ∈ (piece arg4 arg5 arg6 f4 f5 f6 off inb g c hg hc).1.set ↔ inBlk i y ∧ (y 1).val % 640 / 128 = g ∧ (y 2).val % 512 / 128 = c := by
  subst hoff
  have hs := Rect.mem_set_unit (s := S2x5120x1536) (off := goff i g c) (size := S1x128x128.size) (inb := inb) (i := y)
  refine Iff.trans hs (b := ∀ a, goff i g c a ≤ (y a).val ∧ (y a).val < goff i g c a + S1x128x128.size a) (Iff.intro (fun h => ?_) fun h a => ?_)
  · have h0 : (i 0).val % 2 ≤ (y 0).val ∧ (y 0).val < (i 0).val % 2 + 1 := h 0
    have h1 : (i 1).val % 8 * 640 + 128 * g ≤ (y 1).val ∧ (y 1).val < (i 1).val % 8 * 640 + 128 * g + 128 := h 1
    have h2 : (i 1).val / 8 * 512 + 128 * c ≤ (y 2).val ∧ (y 2).val < (i 1).val / 8 * 512 + 128 * c + 128 := h 2
    unfold inBlk
    omega
  · obtain ⟨⟨h0, h1, h2⟩, h3, h4⟩ := h
    match a with
    | ⟨0, _⟩ => show (i 0).val % 2 ≤ (y 0).val ∧ (y 0).val < (i 0).val % 2 + 1; omega
    | ⟨1, _⟩ => show (i 1).val % 8 * 640 + 128 * g ≤ (y 1).val ∧ (y 1).val < (i 1).val % 8 * 640 + 128 * g + 128; omega
    | ⟨2, _⟩ => show (i 1).val / 8 * 512 + 128 * c ≤ (y 2).val ∧ (y 2).val < (i 1).val / 8 * 512 + 128 * c + 128; omega

theorem read_pieces1 (hc1 : k1_cond1 i = 1#1) (arg9 : Memref sig .tc .vmem S2x5120x1536 .bf16) (f9 : Bf (F := F) d arg9) (y : S2x5120x1536.Idx) :
    arg9.view.read (Elt F) (arg9.view.writes (Elt F) f9 (pieces1 i arg4 arg5 arg6 f4 f5 f6 hc1)) y
      = if inBlk i y then blkG (arg4.view.read (Elt F) f4) (arg5.view.read (Elt F) f5) (arg6.view.read (Elt F) f6) y else arg9.view.read (Elt F) f9 y := by
  split
  next h =>
    refine View.read_writes_apply_of_pieces arg9.view f9 _ _ (pieces1_all i arg4 arg5 arg6 f4 f5 f6 hc1 _ fun off inb g c hg hc ho x => piece_agree i arg4 arg5 arg6 f4 f5 f6 off inb g c hg hc ho x) y ?_
    have hy1 := (y 1).isLt
    obtain ⟨off, inb, ho, hm⟩ := pieces1_ex i arg4 arg5 arg6 f4 f5 f6 hc1 ((y 1).val % 640 / 128) ((y 2).val % 512 / 128) (by omega) (by omega)
    exact ⟨_, hm, (piece_mem i arg4 arg5 arg6 f4 f5 f6 off inb _ _ _ _ ho y).2 ⟨h, rfl, rfl⟩⟩
  next h =>
    exact View.read_writes_apply_of_forall_not_mem arg9.view f9 y _ (pieces1_all i arg4 arg5 arg6 f4 f5 f6 hc1 (fun p => y ∉ p.1.set) fun off inb g c hg hc ho hm =>
      h ((piece_mem i arg4 arg5 arg6 f4 f5 f6 off inb g c hg hc ho y).1 hm).1)

theorem read_pieces2 (hc2 : k1_cond2 i = 1#1) (arg9 : Memref sig .tc .vmem S2x5120x1536 .bf16) (f9 : Bf (F := F) d arg9) (y : S2x5120x1536.Idx) :
    arg9.view.read (Elt F) (arg9.view.writes (Elt F) f9 (pieces2 i arg4 arg5 arg6 f4 f5 f6 hc2)) y
      = if inBlk i y then blkG (arg4.view.read (Elt F) f4) (arg5.view.read (Elt F) f5) (arg6.view.read (Elt F) f6) y else arg9.view.read (Elt F) f9 y := by
  split
  next h =>
    refine View.read_writes_apply_of_pieces arg9.view f9 _ _ (pieces2_all i arg4 arg5 arg6 f4 f5 f6 hc2 _ fun off inb g c hg hc ho x => piece_agree i arg4 arg5 arg6 f4 f5 f6 off inb g c hg hc ho x) y ?_
    have hy1 := (y 1).isLt
    obtain ⟨off, inb, ho, hm⟩ := pieces2_ex i arg4 arg5 arg6 f4 f5 f6 hc2 ((y 1).val % 640 / 128) ((y 2).val % 512 / 128) (by omega) (by omega)
    exact ⟨_, hm, (piece_mem i arg4 arg5 arg6 f4 f5 f6 off inb _ _ _ _ ho y).2 ⟨h, rfl, rfl⟩⟩
  next h =>
    exact View.read_writes_apply_of_forall_not_mem arg9.view f9 y _ (pieces2_all i arg4 arg5 arg6 f4 f5 f6 hc2 (fun p => y ∉ p.1.set) fun off inb g c hg hc ho hm =>
      h ((piece_mem i arg4 arg5 arg6 f4 f5 f6 off inb g c hg hc ho y).1 hm).1)

end

end Cert.Proof.Kernel

end
-- ==== Proof.K.Spec1.lean ====
module

public import proofs.«01_k».proof.Proof.K.Spec0
public import proofs.«01_k».proof.Proof.K.Pieces

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem run1_ex (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    ∃ W : Bf (F := F) c arg9, W = arg9.view.writes (Elt F) f9 (pieces1 (d := c) i arg4 arg5 arg6 f4 f5 f6 hc1) ∧ ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 f8 ∗ pt c arg9 W) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q  :=
  ⟨(run1 c i arg2 harg2 arg3 harg3 arg4 harg4 arg5 harg5 arg6 harg6 arg7 harg7 arg8 harg8 arg9 harg9 hc1 hc2 f2 f3 f4 f5 f6 f7 f8 f9).1, by
    unfold run1
    dsimp only
    refine congrArg (arg9.view.writes (Elt F) f9) ?_
    rw [pieces1_run]
    exact congrArg (fun p => p :: (pieces1 (d := c) i arg4 arg5 arg6 f4 f5 f6 hc1).tail) rfl, (run1 c i arg2 harg2 arg3 harg3 arg4 harg4 arg5 harg5 arg6 harg6 arg7 harg7 arg8 harg8 arg9 harg9 hc1 hc2 f2 f3 f4 f5 f6 f7 f8 f9).2⟩

/-- A point of the first column step, over its blocks: the output block stays as found. -/
theorem bodyspec1 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (X : S512x5120.Idx → Elt F .bf16) (T : S512x128.Idx → Elt F .bf16) (q : S320x512.Idx → Elt F .i8) (sc : S1x5x512.Idx → Elt F .f32) (w : S4x320x128.Idx → Elt F .i32) (B : S128x1536.Idx → Elt F .bf16) (Z8 : S512x1536.Idx → Elt F .bf16) (f9 : Bf (F := F) c arg9) (E : Set ℕ) (Q : PUnit → sProp 𝕄) :
    iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare Z8 ∗ pt c arg9 f9
        ∗ (iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare Z8
            ∗ ∃ f' : Bf (F := F) c arg9, ⌜∀ y, arg9.view.read (Elt F) f' y = if inBlk i y then blkG q sc w y else arg9.view.read (Elt F) f9 y⌝ ∗ pt c arg9 f') -∗ Q ⟨⟩))
      ⊢ wp frame (wpE (defs₀ (F := F)) Variants.none c none) E (cc1_main_mm i arg2 harg2 arg3 harg3 arg4 harg4 arg5 harg5 arg6 harg6 arg7 harg7 arg8 harg8 arg9 harg9) Q := by
  simp only [owns_pt c harg2, owns_pt c harg3, owns_pt c harg4, owns_pt c harg5, owns_pt c harg6, owns_pt c harg7, owns_pt c harg8]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, H9, Hk⟩
  obtain ⟨W, hW, hrun⟩ := run1_ex c i arg2 harg2 arg3 harg3 arg4 harg4 arg5 harg5 arg6 harg6 arg7 harg7 arg8 harg8 arg9 harg9 hc1 hc2 f2 f3 f4 f5 f6 f7 f8 f9
  iapply (hrun E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  iexists _; isplitr; swap; (· iexact H9)
  ipureintro
  subst h4 h5 h6 hW
  intro y
  exact read_pieces1 (d := c) i arg4 arg5 arg6 f4 f5 f6 hc1 arg9 f9 y

/-- The decoded column panel a product point reads: the slot the point does not write. -/
abbrev slotOther {c : Dev nD} (i : grid1.Coords) (arg9 : Memref sig .tc .vmem S2x5120x1536 .bf16) (f9 : Bf (F := F) c arg9) : S1x5120x1536.Idx → Elt F .bf16 :=
  fun z => arg9.view.read (Elt F) f9 (ix3 ⟨((i 0).val + 1) % 2, Nat.mod_lt _ (by decide)⟩ (z 1) (z 2))

theorem slot_read {c : Dev nD} (i : grid1.Coords) (arg4 : Memref sig .tc .vmem S320x512 .i8) (arg5 : Memref sig .tc .vmem S1x5x512 .f32) (arg6 : Memref sig .tc .vmem S4x320x128 .i32)
    (f4 : Bf (F := F) c arg4) (f5 : Bf (F := F) c arg5) (f6 : Bf (F := F) c arg6)
    (arg9 : Memref sig .tc .vmem S2x5120x1536 .bf16) (f9 : Bf (F := F) c arg9) (hc2 : k1_cond2 i = 1#1)
    (inb : ∀ a, k1_off43 i a + S1x5120x1536.size a ≤ S2x5120x1536.size a)
    (L : List (View.Piece (Elt F) S2x5120x1536 .bf16)) (hL : L = pieces2 i arg4 arg5 arg6 f4 f5 f6 hc2) :
    View.readAt (Elt F) arg9.view (Rect.unit (s := S2x5120x1536) (k1_off43 i) S1x5120x1536.size inb).toLoadRect (arg9.view.writes (Elt F) f9 L)
      = slotOther i arg9 f9 := by
  subst hL
  funext z
  have hz : (Rect.unit (s := S2x5120x1536) (k1_off43 i) S1x5120x1536.size inb).emb z = ix3 ⟨((i 0).val + 1) % 2, Nat.mod_lt _ (by decide)⟩ (z 1) (z 2) := by
    have h0 : (z 0).val = 0 := by have := (z 0).isLt; show (z 0).val = 0; have h : (z 0).val < 1 := this; omega
    funext a
    apply Fin.ext
    show k1_off43 i a + 1 * (z a).val = _
    rw [congrFun (off43_eq i) a, Nat.one_mul]
    fin_cases a
    · show ((i 0).val + 1) % 2 + (z 0).val = ((i 0).val + 1) % 2; omega
    · show 0 + (z 1).val = (z 1).val; omega
    · show 0 + (z 2).val = (z 2).val; omega
  show arg9.view.read (Elt F) _ ((Rect.unit (s := S2x5120x1536) (k1_off43 i) S1x5120x1536.size inb).emb z) = _
  rw [hz]
  refine (read_pieces2 i arg4 arg5 arg6 f4 f5 f6 hc2 arg9 f9 _).trans (if_neg ?_)
  intro h
  have h1 : ((i 0).val + 1) % 2 = (i 0).val % 2 := h.1
  omega

theorem run2_ex (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    ∃ (W8 : Bf (F := F) c arg8) (W9 : Bf (F := F) c arg9), arg8.view.read (Elt F) W8 = k1_pay2 (k1_pay82 (arg2.view.read (Elt F) f2) (slotOther i arg9 f9)) (k1_pay83 (arg3.view.read (Elt F) f3) (arg7.view.read (Elt F) f7))
      ∧ W9 = arg9.view.writes (Elt F) f9 (pieces2 (d := c) i arg4 arg5 arg6 f4 f5 f6 hc2) ∧ ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 W8 ∗ pt c arg9 W9) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q  := by
  refine ⟨(run2 c i arg2 harg2 arg3 harg3 arg4 harg4 arg5 harg5 arg6 harg6 arg7 harg7 arg8 harg8 arg9 harg9 hc1 hc2 f2 f3 f4 f5 f6 f7 f8 f9).1, (run2 c i arg2 harg2 arg3 harg3 arg4 harg4 arg5 harg5 arg6 harg6 arg7 harg7 arg8 harg8 arg9 harg9 hc1 hc2 f2 f3 f4 f5 f6 f7 f8 f9).2.1, ?_, ?_, (run2 c i arg2 harg2 arg3 harg3 arg4 harg4 arg5 harg5 arg6 harg6 arg7 harg7 arg8 harg8 arg9 harg9 hc1 hc2 f2 f3 f4 f5 f6 f7 f8 f9).2.2⟩
  · unfold run2
    dsimp only
    rw [run2.sl.H8_1]
    refine (read_store_whole arg8.view inb_S512x1536_S512x1536_0_0 (by decide) _ _).trans ?_
    refine congrArg₂ k1_pay2 (congrArg₂ k1_pay82 (readAt_whole arg2.view _ (by decide) f2) ?_) (congrArg₂ k1_pay83 (readAt_whole arg3.view _ (by decide) f3) (readAt_whole arg7.view _ (by decide) f7))
    exact slot_read i arg4 arg5 arg6 f4 f5 f6 arg9 f9 hc2 _ (run2.sl.H9_20 c i arg4 arg5 arg6 hc2 f4 f5 f6) (pieces2_run ..)
  · unfold run2
    dsimp only
    exact congrArg (arg9.view.writes (Elt F) f9) (pieces2_run ..)

/-- A point of the later column steps, over its blocks. -/
theorem bodyspec2 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (X : S512x5120.Idx → Elt F .bf16) (T : S512x128.Idx → Elt F .bf16) (q : S320x512.Idx → Elt F .i8) (sc : S1x5x512.Idx → Elt F .f32) (w : S4x320x128.Idx → Elt F .i32) (B : S128x1536.Idx → Elt F .bf16) (f9 : Bf (F := F) c arg9) (E : Set ℕ) (Q : PUnit → sProp 𝕄) :
    iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ (∃ Z8, owns (c : Thread nD τ) arg8 fullShare Z8) ∗ pt c arg9 f9
        ∗ (iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare (k1_pay2 (k1_pay82 X (slotOther i arg9 f9)) (k1_pay83 T B))
            ∗ ∃ f' : Bf (F := F) c arg9, ⌜∀ y, arg9.view.read (Elt F) f' y = if inBlk i y then blkG q sc w y else arg9.view.read (Elt F) f9 y⌝ ∗ pt c arg9 f') -∗ Q ⟨⟩))
      ⊢ wp frame (wpE (defs₀ (F := F)) Variants.none c none) E (cc1_main_mm i arg2 harg2 arg3 harg3 arg4 harg4 arg5 harg5 arg6 harg6 arg7 harg7 arg8 harg8 arg9 harg9) Q := by
  simp only [owns_pt c harg2, owns_pt c harg3, owns_pt c harg4, owns_pt c harg5, owns_pt c harg6, owns_pt c harg7, owns_pt c harg8]
  iintro ⟨⟨%f2, %h2, H2⟩, ⟨%f3, %h3, H3⟩, ⟨%f4, %h4, H4⟩, ⟨%f5, %h5, H5⟩, ⟨%f6, %h6, H6⟩, ⟨%f7, %h7, H7⟩, ⟨%Z8, %f8, -, H8⟩, H9, Hk⟩
  obtain ⟨W8, W, hW8, hW, hrun⟩ := run2_ex c i arg2 harg2 arg3 harg3 arg4 harg4 arg5 harg5 arg6 harg6 arg7 harg7 arg8 harg8 arg9 harg9 hc1 hc2 f2 f3 f4 f5 f6 f7 f8 f9
  iapply (hrun E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]
  · iexists _; isplitr; swap; (· iexact H8)
    ipureintro
    subst h2 h3 h7
    exact hW8
  iexists _; isplitr; swap; (· iexact H9)
  ipureintro
  subst h4 h5 h6 hW
  intro y
  exact read_pieces2 (d := c) i arg4 arg5 arg6 f4 f5 f6 hc2 arg9 f9 y

end Cert.Proof.Kernel

end
-- ==== Proof.K.Region0.lean ====
/-
  The first call's proof data and its segment record: entered from any valuation of the unscoped buffers, left with
  its result array written.
-/
module

public import proofs.«01_k».proof.Proof.K.Spec0
public import proofs.«01_k».proof.Proof.Gen.Kernel.Regions
public import Idealize.ShloMosaic.Lib.Pipeline.RegionsLoop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- Window `w`'s block at point `t`, read off the array. -/
abbrev blk0 (c : Dev nD) (w : Fin 3) (t : Fin cfg0.N) : ((cfg0.win w).xblock (cfg0.grid.coords t)).Idx → Elt F (cfg0.win w).elt :=
  ((cfg0.win w).blk t).view.read (Elt F) (V c (Pipeline.arrRef spec0 w))

/-- The first call's proof data: the inputs stay, the result block is the product. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = blk0 V c 0 t :=
  Dat.before_in_eq_fetched (dat := dat0 V c) 0 rfl (fun _ => rfl) (fun _ _ _ => rfl) (fun _ => rfl) t d
theorem before0_1 (c : Dev nD) (t : Fin cfg0.N) (d) : (dat0 V c).before 1 t d = blk0 V c 1 t :=
  Dat.before_in_eq_fetched (dat := dat0 V c) 1 rfl (fun _ => rfl) (fun _ _ _ => rfl) (fun _ => rfl) t d

theorem body_obligation0 (c : Dev nD) : BodyObligation (dat0 V c) (defs₀ (F := F)) Variants.none () Set.univ := fun t => by
  rw [bigSep_W0, bigSep_W0]
  show _ ⊢ wp frame (wpE (defs₀ (F := F)) Variants.none c none) Set.univ (bodyAt0 t) _
  rw [show (dat0 V c).Φ t.succ = (dat0 V c).Φ t.castSucc from rfl, show (dat0 V c).owesAt () t.succ = (dat0 V c).owesAt () t.castSucc from rfl]
  iintro ⟨HΦ, Howes, ⟨%d0, H0⟩, ⟨%d1, H1⟩, H2⟩
  rw [before0_0, before0_1]
  iapply (bodyspec0 c (grid0.coords t) _ _ _ _ _ _ (blk0 V c 0 t) (blk0 V c 1 t) Set.univ _)
  isplitl [H0]; · iexact H0
  isplitl [H1]; · iexact H1
  isplitl [H2]; · icases H2 with ⟨%d2, H2⟩; iexists _; iexact H2
  iintro ⟨H0, H1, H2⟩
  isplitl [HΦ]; · iexact HΦ
  isplitl [Howes]; · iexact Howes
  isplitl [H0]; · iexact H0
  isplitl [H1]; · iexact H1
  iexact H2

/-- No core owes another anything: no level is assigned. -/
abbrev L : GSem nD τ sig → Finset Unit := fun _ => ∅
abbrev lv : GSem nD τ sig → Unit → ℕ := fun _ _ => 0

/-- What rides along beside the unscoped buffers: the core owes nothing. -/
abbrev Rst (c : Dev nD) : sProp 𝕄 := iprop(∃ W, owes (c : Thread nD τ) (0 : CellTallies nD τ sig Unit) W)

set_option backward.isDefEq.respectTransparency.types false in
/-- The first call as a segment, for any family of proof data with `dat0 V` at place 0. -/
def reg0 (pdats : (p : Fin 2) → (c : Dev nD) → Dat τ (Elt F) Unit ℕ UU ℕ (cfgs p) c) (hd : pdats 0 = dat0 V)
    (Vp : (c : Dev nD) → Valuation τ sig (Elt F)) (hVp_out : ∀ c, Vp c main_v1 = (dat0 V c).arrAt 2 cfg0.N)
    (hVp_ne : ∀ c (b : Ref sig .tc), b ≠ main_v1 → Vp c b = V c b) :
    Pipeline.RegionSeg (pcfgs (F := F)) adm pdats () defs₀ Variants.none L lv 0 where
  win := launch0.win.to₀
  block_pos := launch0.block_pos
  stage_whole := launch0.stage_whole
  K := PEmpty
  osem k := k.elim
  ho := Pipeline.OwnSemFacts.none _
  hbody c := by rw [hd]; exact (body_obligation0 V c).loose
  hwaits := Pipeline.hwaits_of_owed_zero _ _ _ _ L lv 0 fun _ _ => by rw [hd]; rfl
  pre c := iprop(StableHlo.held (c : Thread nD τ) (Pipeline.ucRefs τ sig) (V c) ∗ Rst c)
  post c := iprop(StableHlo.held (c : Thread nD τ) (Pipeline.ucRefs τ sig) (Vp c) ∗ Rst c)
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := Pipeline.arrays_of_unscopedBufs (p := 0) (pcfgs (F := F)) adm pdats launch0.win launch0.arr_whole c
      ((pdats 0 c).share_full fun _ => by rw [hd]; rfl) (fun b => V c b) fun _ => by rw [hd]; rfl
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats 0 c).Φ 0 = Pipeline.scopedRest (Ix := Unit) (Name := ℕ) (U := UU) (Lvl := ℕ) (Val := Elt F) spec0 c from by rw [hd]; rfl]
    iintro ⟨-, -, Hr⟩; iexact Hr
  hout c := by
    rw [Pipeline.ownSems0_none, show (pdats 0 c).Φ (Fin.last _) = Pipeline.scopedRest (Ix := Unit) (Name := ℕ) (U := UU) (Lvl := ℕ) (Val := Elt F) spec0 c from by rw [hd]; rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      pdats ((pdats 0 c).share_full fun _ => by rw [hd]; rfl) (fun b => V c b) (fun b => Vp c b) ((pdats 0 c).arrAt · cfg0.N)
      (fun w => by
        rw [hd]
        fin_cases w
        · exact ((dat0 V c).arrAt_in 0 rfl _).trans (hVp_ne c main_v0 (by decide)).symm
        · exact ((dat0 V c).arrAt_in 1 rfl _).trans (hVp_ne c main_arg4 (by decide)).symm
        · exact (hVp_out c).symm)
      (fun b hb => hVp_ne c b fun h => hb (h ▸ Finset.mem_image.mpr ⟨2, Finset.mem_univ _, rfl⟩))
    rw [← Pipeline.unscopedBufs_held (Ix := Unit) (Name := ℕ) (U := UU) (Lvl := ℕ) c (Vp c)]
    iintro ⟨Ha, HO, -, Hrest⟩
    imodintro
    isplitl [Ha Hrest]
    · iapply hjoin; isplitl [Ha] <;> iassumption
    rw [hd]
    unfold Pipeline.Dat.owesAt Pipeline.owesWithin
    icases HO with ⟨%W, -, HO⟩; iexists W; iexact HO

end Cert.Proof.Kernel

end
-- ==== Proof.K.Blocks1.lean ====
/-
  The second call's blocks read off its arrays.
-/
module

public import proofs.«01_k».proof.Proof.K.Spec1
public import proofs.«01_k».proof.Proof.K.Region0

@[expose] public section

set_option maxRecDepth 16384

noncomputable section

namespace Cert.Proof.Kernel

open Cert.Kernel Cert.Kernel.Gen
open Idealize.ShloMosaic Idealize.ShloMosaic.TcCoe

variable {F : FTy → Type} [FloatOps F]

/-- The two coordinates of the point numbered `t`. -/
theorem coords1_0 (t : Fin cfg1.N) : (grid1.coords t 0).val = t.val / 24 :=
  (by decide +kernel : ∀ t : Fin cfg1.N, (grid1.coords t 0).val = t.val / 24) t
theorem coords1_1 (t : Fin cfg1.N) : (grid1.coords t 1).val = t.val % 24 :=
  (by decide +kernel : ∀ t : Fin cfg1.N, (grid1.coords t 1).val = t.val % 24) t

theorem tr0_eq (i : grid1.Coords) : cc1_transform_0 i = ![if (i 0).val = 0 then 0 else (i 1).val, 0] :=
  forall_ci (P := fun i => cc1_transform_0 i = ![if (i 0).val = 0 then 0 else (i 1).val, 0]) (by decide +kernel) i
theorem tr1_eq (i : grid1.Coords) : cc1_transform_1 i = ![if (i 0).val = 0 then 0 else (i 1).val, 0] :=
  forall_ci (P := fun i => cc1_transform_1 i = ![if (i 0).val = 0 then 0 else (i 1).val, 0]) (by decide +kernel) i
theorem tr2_eq (i : grid1.Coords) : cc1_transform_2 i = ![(i 1).val % 8, min (i 0).val 17 * 3 + (i 1).val / 8] :=
  forall_ci (P := fun i => cc1_transform_2 i = ![(i 1).val % 8, min (i 0).val 17 * 3 + (i 1).val / 8]) (by decide +kernel) i
theorem tr3_eq (i : grid1.Coords) : cc1_transform_3 i = ![(i 1).val % 8, 0, min (i 0).val 17 * 3 + (i 1).val / 8] :=
  forall_ci (P := fun i => cc1_transform_3 i = ![(i 1).val % 8, 0, min (i 0).val 17 * 3 + (i 1).val / 8]) (by decide +kernel) i
theorem tr4_eq (i : grid1.Coords) : cc1_transform_4 i = ![min (i 0).val 17 * 3 + (i 1).val / 8, (i 1).val % 8, 0] :=
  forall_ci (P := fun i => cc1_transform_4 i = ![min (i 0).val 17 * 3 + (i 1).val / 8, (i 1).val % 8, 0]) (by decide +kernel) i
theorem tr5_eq (i : grid1.Coords) : cc1_transform_5 i = ![0, (i 0).val - 1] :=
  forall_ci (P := fun i => cc1_transform_5 i = ![0, (i 0).val - 1]) (by decide +kernel) i
theorem tr6_eq (i : grid1.Coords) : cc1_transform_6 i = ![if (i 0).val = 0 then 0 else (i 1).val, (i 0).val - 1] :=
  forall_ci (P := fun i => cc1_transform_6 i = ![if (i 0).val = 0 then 0 else (i 1).val, (i 0).val - 1]) (by decide +kernel) i

variable (V : (c : Dev nD) → Valuation τ sig (Elt F))

/-- Window `w`'s block at point `t`, read off the array. -/
abbrev blk1 (c : Dev nD) (w : Fin 7) (t : Fin cfg1.N) : ((cfg1.win w).xblock (cfg1.grid.coords t)).Idx → Elt F (cfg1.win w).elt :=
  ((cfg1.win w).blk t).view.read (Elt F) (V c (Pipeline.arrRef spec1 w))

/-- The arrays the second call reads. -/
abbrev aX (c : Dev nD) : S12288x5120.Idx → Elt F .bf16 := V c main_v0
abbrev aT (c : Dev nD) : S12288x128.Idx → Elt F .bf16 := V c main_v1
abbrev aQ (c : Dev nD) : S2560x27648.Idx → Elt F .i8 := V c main_arg1
abbrev aS (c : Dev nD) : S8x5x27648.Idx → Elt F .f32 := V c main_v2
abbrev aW (c : Dev nD) : S216x2560x128.Idx → Elt F .i32 := V c main_arg3
abbrev aB (c : Dev nD) : S128x27648.Idx → Elt F .bf16 := V c main_arg5

theorem blk1_0 (c : Dev nD) (t : Fin cfg1.N) (a : Fin 512) (k : Fin 5120) (h : 24 ≤ t.val) :
    blk1 V c 0 t (ix2 a k : S512x5120.Idx) = aX V c (ix2 ⟨t.val % 24 * 512 + a.val, by omega⟩ k) := by
  refine congrArg (aX V c) (funext fun x => Fin.ext ?_)
  refine (Pipeline.Window.rect_emb_val (cfg1.win 0) t _ x).trans ?_
  show cc1_transform_0 (grid1.coords t) x * _ + _ = _
  rw [congrFun (tr0_eq (grid1.coords t)) x, coords1_0, coords1_1, if_neg (by omega)]
  match x with
  | ⟨0, _⟩ => rfl
  | ⟨1, _⟩ => show 0 * 5120 + k.val = k.val; omega

theorem blk1_1 (c : Dev nD) (t : Fin cfg1.N) (a : Fin 512) (k : Fin 128) (h : 24 ≤ t.val) :
    blk1 V c 1 t (ix2 a k : S512x128.Idx) = aT V c (ix2 ⟨t.val % 24 * 512 + a.val, by omega⟩ k) := by
  refine congrArg (aT V c) (funext fun x => Fin.ext ?_)
  refine (Pipeline.Window.rect_emb_val (cfg1.win 1) t _ x).trans ?_
  show cc1_transform_1 (grid1.coords t) x * _ + _ = _
  rw [congrFun (tr1_eq (grid1.coords t)) x, coords1_0, coords1_1, if_neg (by omega)]
  match x with
  | ⟨0, _⟩ => rfl
  | ⟨1, _⟩ => show 0 * 128 + k.val = k.val; omega

theorem blk1_2 (c : Dev nD) (t : Fin cfg1.N) (a : Fin 320) (b : Fin 512) :
    blk1 V c 2 t (ix2 a b : S320x512.Idx) = aQ V c (ix2 ⟨t.val % 24 % 8 * 320 + a.val, by omega⟩ ⟨(min (t.val / 24) 17 * 3 + t.val % 24 / 8) * 512 + b.val, by omega⟩) := by
  refine congrArg (aQ V c) (funext fun x => Fin.ext ?_)
  refine (Pipeline.Window.rect_emb_val (cfg1.win 2) t _ x).trans ?_
  show cc1_transform_2 (grid1.coords t) x * _ + _ = _
  rw [congrFun (tr2_eq (grid1.coords t)) x, coords1_0, coords1_1]
  match x with
  | ⟨0, _⟩ => rfl
  | ⟨1, _⟩ => rfl

theorem blk1_3 (c : Dev nD) (t : Fin cfg1.N) (a : Fin 5) (b : Fin 512) :
    blk1 V c 3 t (ix3 0 a b : S1x5x512.Idx) = aS V c (ix3 ⟨t.val % 24 % 8, by omega⟩ a ⟨(min (t.val / 24) 17 * 3 + t.val % 24 / 8) * 512 + b.val, by omega⟩) := by
  refine congrArg (aS V c) (funext fun x => Fin.ext ?_)
  refine (Pipeline.Window.rect_emb_val (cfg1.win 3) t _ x).trans ?_
  show cc1_transform_3 (grid1.coords t) x * _ + _ = _
  rw [congrFun (tr3_eq (grid1.coords t)) x, coords1_0, coords1_1]
  match x with
  | ⟨0, _⟩ => show t.val % 24 % 8 * 1 + 0 = t.val % 24 % 8; omega
  | ⟨1, _⟩ => show 0 * 5 + a.val = a.val; omega
  | ⟨2, _⟩ => rfl

theorem blk1_4 (c : Dev nD) (t : Fin cfg1.N) (g : Fin 4) (a : Fin 320) (b : Fin 128) :
    blk1 V c 4 t (ix3 g a b : S4x320x128.Idx) = aW V c (ix3 ⟨(min (t.val / 24) 17 * 3 + t.val % 24 / 8) * 4 + g.val, by omega⟩ ⟨t.val % 24 % 8 * 320 + a.val, by omega⟩ b) := by
  refine congrArg (aW V c) (funext fun x => Fin.ext ?_)
  refine (Pipeline.Window.rect_emb_val (cfg1.win 4) t _ x).trans ?_
  show cc1_transform_4 (grid1.coords t) x * _ + _ = _
  rw [congrFun (tr4_eq (grid1.coords t)) x, coords1_0, coords1_1]
  match x with
  | ⟨0, _⟩ => rfl
  | ⟨1, _⟩ => rfl
  | ⟨2, _⟩ => show 0 * 128 + b.val = b.val; omega

theorem blk1_5 (c : Dev nD) (t : Fin cfg1.N) (a : Fin 128) (b : Fin 1536) (h : 24 ≤ t.val) :
    blk1 V c 5 t (ix2 a b : S128x1536.Idx) = aB V c (ix2 a ⟨(t.val / 24 - 1) * 1536 + b.val, by have := t.isLt; have h : t.val < 456 := this; omega⟩) := by
  refine congrArg (aB V c) (funext fun x => Fin.ext ?_)
  refine (Pipeline.Window.rect_emb_val (cfg1.win 5) t _ x).trans ?_
  show cc1_transform_5 (grid1.coords t) x * _ + _ = _
  rw [congrFun (tr5_eq (grid1.coords t)) x, coords1_0]
  match x with
  | ⟨0, _⟩ => show 0 * 128 + a.val = a.val; omega
  | ⟨1, _⟩ => rfl

/-- The decoded matrix: its entry at row `k` and column `n`. -/
def dec (c : Dev nD) (k : Fin 5120) (n : Fin 27648) : Elt F .bf16 :=
  elt (aQ V c (ix2 ⟨k.val / 2, by omega⟩ n)) (aS V c (ix3 ⟨k.val / 640, by omega⟩ ⟨k.val % 640 / 128, by omega⟩ n))
    (aW V c (ix3 ⟨n.val / 128, by omega⟩ ⟨k.val / 2, by omega⟩ ⟨n.val % 128, by omega⟩)) (k.val % 2)

/-- Column `b` of panel `p`. -/
abbrev pcol (p : ℕ) (hp : p < 18) (b : Fin 1536) : Fin 27648 := ⟨p * 1536 + b.val, by omega⟩

/-- The block a point decodes, read at a cell of the scratch buffer, is the decoded matrix there. -/
theorem blkG_dec (c : Dev nD) (t : Fin cfg1.N) (y : S2x5120x1536.Idx) (h : inBlk (grid1.coords t) y) :
    blkG (blk1 V c 2 t) (blk1 V c 3 t) (blk1 V c 4 t) y = dec V c (y 1) (pcol (min (t.val / 24) 17) (by omega) (y 2)) := by
  obtain ⟨-, h1, h2⟩ := h
  rw [coords1_1] at h1 h2
  have hy1 : (y 1).val < 5120 := (y 1).isLt
  have hy2 : (y 2).val < 1536 := (y 2).isLt
  unfold blkG dec
  refine congr (congr (congrArg₂ elt ((blk1_2 V c t _ _).trans (congrArg (aQ V c) ?_)) ((blk1_3 V c t _ _).trans (congrArg (aS V c) ?_)))
    ((blk1_4 V c t _ _ _).trans (congrArg (aW V c) ?_))) ?_
  · congr 1 <;> apply Fin.ext <;> dsimp only [pcol] <;> omega
  · congr 1 <;> apply Fin.ext <;> dsimp only [pcol] <;> omega
  · congr 1 <;> apply Fin.ext <;> dsimp only [pcol] <;> omega
  · omega

end Cert.Proof.Kernel

end
-- ==== Proof.K.Region1.lean ====
/-
  The second call's proof data: before point `t` one slot of the scratch buffer holds the panel decoded in the column
  step before, the other the part of the next panel decoded so far.
-/
module

public import proofs.«01_k».proof.Proof.K.Blocks1

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- What the scratch buffer holds before point `t`. -/
def Inv (c : Dev nD) (t : ℕ) (g : S2x5120x1536.Idx → Elt F .bf16) : Prop :=
  ∀ y : S2x5120x1536.Idx,
    (24 ≤ t → (y 0).val = (t / 24 + 1) % 2 → g y = dec V c (y 1) (pcol (min (t / 24 - 1) 17) (by omega) (y 2)))
    ∧ ((y 0).val = t / 24 % 2 → (y 2).val / 512 * 8 + (y 1).val / 640 < t % 24 → g y = dec V c (y 1) (pcol (min (t / 24) 17) (by omega) (y 2)))

theorem Inv_zero (c : Dev nD) (g : S2x5120x1536.Idx → Elt F .bf16) : Inv V c 0 g :=
  fun _ => ⟨fun h => absurd h (by omega), fun _ h => absurd h (by omega)⟩

theorem dec_congr (c : Dev nD) (k : Fin 5120) (b : Fin 1536) {p q : ℕ} (hp : p < 18) (hq : q < 18) (h : p = q) :
    dec V c k (pcol p hp b) = dec V c k (pcol q hq b) := by subst h; rfl

/-- A point keeps the invariant. -/
theorem Inv_step (c : Dev nD) (t : Fin cfg1.N) (g g' : S2x5120x1536.Idx → Elt F .bf16) (h : Inv V c t.val g)
    (hg : ∀ y, g' y = if inBlk (grid1.coords t) y then blkG (blk1 V c 2 t) (blk1 V c 3 t) (blk1 V c 4 t) y else g y) : Inv V c (t.val + 1) g' := by
  intro y
  have hy0 : (y 0).val < 2 := (y 0).isLt
  have hy1 : (y 1).val < 5120 := (y 1).isLt
  have hy2 : (y 2).val < 1536 := (y 2).isLt
  have ht : t.val < 456 := t.isLt
  obtain ⟨ha, hb⟩ := h y
  have hin : inBlk (grid1.coords t) y ↔ (y 0).val = t.val / 24 % 2 ∧ (y 1).val / 640 = t.val % 24 % 8 ∧ (y 2).val / 512 = t.val % 24 / 8 := by
    unfold inBlk; rw [coords1_0, coords1_1]
  rw [hg y]
  by_cases hi : inBlk (grid1.coords t) y
  · rw [if_pos hi, blkG_dec V c t y hi]
    rw [hin] at hi
    constructor
    · intro _ h0
      exact dec_congr V c _ _ _ _ (by omega)
    · intro h0 _
      exact dec_congr V c _ _ _ _ (by omega)
  · rw [if_neg hi]
    rw [hin] at hi
    constructor
    · intro h24 h0
      by_cases hm : t.val % 24 = 23
      · rw [hb (by omega) (by omega)]
        exact dec_congr V c _ _ _ _ (by omega)
      · rw [ha (by omega) (by omega)]
        exact dec_congr V c _ _ _ _ (by omega)
    · intro h0 h1
      rw [hb (by omega) (by omega)]
      exact dec_congr V c _ _ _ _ (by omega)

/-- The decoded panel the products of point `t` read. -/
def panel (c : Dev nD) (t : ℕ) : S1x5120x1536.Idx → Elt F .bf16 :=
  fun z => dec V c (z 1) (pcol (min (t / 24 - 1) 17) (by omega) (z 2))

/-- The result block of point `t`. -/
def res1 (c : Dev nD) (t : Fin cfg1.N) : S512x1536.Idx → Elt F .bf16 :=
  k1_pay2 (k1_pay82 (blk1 V c 0 t) (panel V c t.val)) (k1_pay83 (blk1 V c 1 t) (blk1 V c 5 t))

abbrev sM : Memref sig .tc .vmem S2x5120x1536 .bf16 := Memref.whole cc1_scratch0

theorem slot_panel (c : Dev nD) (t : Fin cfg1.N) (f : Bf (F := F) c sM) (h : Inv V c t.val (sM.view.read (Elt F) f)) (h24 : 24 ≤ t.val) :
    slotOther (grid1.coords t) sM f = panel V c t.val := by
  funext z
  have hc : ((grid1.coords t 0).val + 1) % 2 = (t.val / 24 + 1) % 2 := by rw [coords1_0]
  exact (h (ix3 ⟨((grid1.coords t 0).val + 1) % 2, Nat.mod_lt _ (by decide)⟩ (z 1) (z 2))).1 h24 hc

/-- The buffers the second call does not touch. -/
abbrev some_ (c : Dev nD) (b : Ref sig .tc) : sProp 𝕄 := iprop(∃ f : Buf (Elt F) ((c : Thread nD τ).loc b), ((c : Thread nD τ).loc b) ↦{fullShare} f)

/-- The invariant between points. -/
def Φ1 (c : Dev nD) (t : ℕ) : sProp 𝕄 :=
  iprop(some_ c cc0_stg0_0 ∗ some_ c cc0_stg0_1 ∗ some_ c cc0_stg1_0 ∗ some_ c cc0_stg2_0 ∗ some_ c cc0_stg2_1
    ∗ ∃ f : Bf (F := F) c sM, ⌜Inv V c t (sM.view.read (Elt F) f)⌝ ∗ pt c sM f)

/-- The second call's proof data. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1 V c t
  Φ t := Φ1 V c t.val
  q _ := fullShare
  owed _ := 0

theorem before1_0 (c : Dev nD) (t : Fin cfg1.N) (d) : (dat1 V c).before 0 t d = blk1 V c 0 t :=
  Dat.before_in_eq_fetched (dat := dat1 V c) 0 rfl (fun _ => rfl) (fun _ _ _ => rfl) (fun _ => rfl) t d
theorem before1_1 (c : Dev nD) (t : Fin cfg1.N) (d) : (dat1 V c).before 1 t d = blk1 V c 1 t :=
  Dat.before_in_eq_fetched (dat := dat1 V c) 1 rfl (fun _ => rfl) (fun _ _ _ => rfl) (fun _ => rfl) t d
theorem before1_2 (c : Dev nD) (t : Fin cfg1.N) (d) : (dat1 V c).before 2 t d = blk1 V c 2 t :=
  Dat.before_in_eq_fetched (dat := dat1 V c) 2 rfl (fun _ => rfl) (fun _ _ _ => rfl) (fun _ => rfl) t d
theorem before1_3 (c : Dev nD) (t : Fin cfg1.N) (d) : (dat1 V c).before 3 t d = blk1 V c 3 t :=
  Dat.before_in_eq_fetched (dat := dat1 V c) 3 rfl (fun _ => rfl) (fun _ _ _ => rfl) (fun _ => rfl) t d
theorem before1_4 (c : Dev nD) (t : Fin cfg1.N) (d) : (dat1 V c).before 4 t d = blk1 V c 4 t :=
  Dat.before_in_eq_fetched (dat := dat1 V c) 4 rfl (fun _ => rfl) (fun _ _ _ => rfl) (fun _ => rfl) t d
theorem before1_5 (c : Dev nD) (t : Fin cfg1.N) (d) : (dat1 V c).before 5 t d = blk1 V c 5 t :=
  Dat.before_in_eq_fetched (dat := dat1 V c) 5 rfl (fun _ => rfl) (fun _ _ _ => rfl) (fun _ => rfl) t d

theorem idle_early (t : Fin cfg1.N) (h : t.val < 24) : idle1 6 (grid1.coords t) = true := by
  show (!(k1_cond2 (grid1.coords t) == 1#1)) = true
  have : ¬ k1_cond2 (grid1.coords t) = 1#1 := by rw [cond2_iff, coords1_0]; omega
  simpa using this
theorem idle_late (t : Fin cfg1.N) (h : 24 ≤ t.val) : idle1 6 (grid1.coords t) = false := by
  show (!(k1_cond2 (grid1.coords t) == 1#1)) = false
  have : k1_cond2 (grid1.coords t) = 1#1 := by rw [cond2_iff, coords1_0]; omega
  simpa using this
theorem flush_early (t : Fin cfg1.N) (h : t.val < 24) : (win1 6).flush t = false :=
  (by decide +kernel : ∀ t : Fin cfg1.N, t.val < 24 → (cfg1.win 6).flush t = false) t h

theorem body_obligation1 (c : Dev nD) : BodyObligation (dat1 V c) (defs₀ (F := F)) Variants.none () Set.univ := fun t => by
  rw [bigSep_W1, bigSep_W1]
  show _ ⊢ wp frame (wpE (defs₀ (F := F)) Variants.none c none) Set.univ (bodyAt1 t) _
  rw [show (dat1 V c).Φ t.succ = Φ1 V c (t.val + 1) from rfl, show (dat1 V c).Φ t.castSucc = Φ1 V c t.val from rfl,
    show (dat1 V c).owesAt () t.succ = (dat1 V c).owesAt () t.castSucc from rfl]
  unfold Φ1
  by_cases h24 : 24 ≤ t.val
  · simp only [idle_late t h24]
    have hc1 : ¬ k1_cond1 (grid1.coords t) = 1#1 := by rw [cond1_iff, coords1_0]; omega
    have hc2 : k1_cond2 (grid1.coords t) = 1#1 := by rw [cond2_iff, coords1_0]; omega
    iintro ⟨⟨Ha, Hb, Hc, Hd, He, %f, %hf, Hs⟩, Howes, ⟨%d0, H0⟩, ⟨%d1, H1⟩, ⟨%d2, H2⟩, ⟨%d3, H3⟩, ⟨%d4, H4⟩, ⟨%d5, H5⟩, H6⟩
    rw [before1_0, before1_1, before1_2, before1_3, before1_4, before1_5]
    iapply (bodyspec2 c (grid1.coords t) _ _ _ _ _ _ _ _ _ _ _ _ _ _ sM _ hc1 hc2 (blk1 V c 0 t) (blk1 V c 1 t) (blk1 V c 2 t) (blk1 V c 3 t) (blk1 V c 4 t) (blk1 V c 5 t) f Set.univ _)
    rw [slot_panel V c t f hf h24]
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d6, H6⟩; iexists _; iexact H6
    isplitl [Hs]; · iexact Hs
    iintro ⟨H0, H1, H2, H3, H4, H5, H6, %f', %hf', Hs⟩
    isplitl [Ha Hb Hc Hd He Hs]
    · isplitl [Ha]; · iexact Ha
      isplitl [Hb]; · iexact Hb
      isplitl [Hc]; · iexact Hc
      isplitl [Hd]; · iexact Hd
      isplitl [He]; · iexact He
      iexists f'; isplitr; swap; (· iexact Hs)
      ipureintro
      exact Inv_step V c t _ _ hf hf'
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · have hlt : t.val < 24 := by omega
    simp only [idle_early t hlt, flush_early t hlt]
    have hc1 : k1_cond1 (grid1.coords t) = 1#1 := by rw [cond1_iff, coords1_0]; omega
    have hc2 : ¬ k1_cond2 (grid1.coords t) = 1#1 := by rw [cond2_iff, coords1_0]; omega
    iintro ⟨⟨Ha, Hb, Hc, Hd, He, %f, %hf, Hs⟩, Howes, ⟨%d0, H0⟩, ⟨%d1, H1⟩, ⟨%d2, H2⟩, ⟨%d3, H3⟩, ⟨%d4, H4⟩, ⟨%d5, H5⟩, ⟨%d6, H6⟩⟩
    rw [before1_0, before1_1, before1_2, before1_3, before1_4, before1_5]
    iapply (bodyspec1 c (grid1.coords t) _ _ _ _ _ _ _ _ _ _ _ _ _ _ sM _ hc1 hc2 (blk1 V c 0 t) (blk1 V c 1 t) (blk1 V c 2 t) (blk1 V c 3 t) (blk1 V c 4 t) (blk1 V c 5 t) ((dat1 V c).before 6 t d6) f Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, %f', %hf', Hs⟩
    isplitl [Ha Hb Hc Hd He Hs]
    · isplitl [Ha]; · iexact Ha
      isplitl [Hb]; · iexact Hb
      isplitl [Hc]; · iexact Hc
      isplitl [Hd]; · iexact Hd
      isplitl [He]; · iexact He
      iexists f'; isplitr; swap; (· iexact Hs)
      ipureintro
      exact Inv_step V c t _ _ hf hf'
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexists d6; iexact H6

end Cert.Proof.Kernel

end
-- ==== Proof.K.Seg1.lean ====
/-
  The second call as a segment.
-/
module

public import proofs.«01_k».proof.Proof.K.Region1
public import proofs.«01_k».proof.Proof.Gen.Kernel.Regions
public import Idealize.ShloMosaic.Lib.Pipeline.RegionsLoop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

theorem Φ1_intro (c : Dev nD) : (Pipeline.scopedRest (Ix := Unit) (Name := ℕ) (U := UU) (Lvl := ℕ) (Val := Elt F) spec1 c : sProp 𝕄) ⊢ Φ1 V c 0 := by
  rw [scopedRest1_eq]
  unfold Φ1
  iintro ⟨Ha, Hb, Hc, Hd, He, %f, Hs⟩
  isplitl [Ha]; · iexact Ha
  isplitl [Hb]; · iexact Hb
  isplitl [Hc]; · iexact Hc
  isplitl [Hd]; · iexact Hd
  isplitl [He]; · iexact He
  iexists f; isplitr; swap; (· iexact Hs)
  ipureintro
  exact Inv_zero V c _

theorem Φ1_elim (c : Dev nD) : Φ1 V c 456 ⊢ (Pipeline.scopedRest (Ix := Unit) (Name := ℕ) (U := UU) (Lvl := ℕ) (Val := Elt F) spec1 c : sProp 𝕄) := by
  rw [scopedRest1_eq]
  unfold Φ1
  iintro ⟨Ha, Hb, Hc, Hd, He, %f, -, Hs⟩
  isplitl [Ha]; · iexact Ha
  isplitl [Hb]; · iexact Hb
  isplitl [Hc]; · iexact Hc
  isplitl [Hd]; · iexact Hd
  isplitl [He]; · iexact He
  iexists f; iexact Hs

set_option backward.isDefEq.respectTransparency.types false in
/-- The second call as a segment, for any family of proof data with `dat1 V` at place 1. -/
def reg1 (pdats : (p : Fin 2) → (c : Dev nD) → Dat τ (Elt F) Unit ℕ UU ℕ (cfgs p) c) (hd : pdats 1 = dat1 V)
    (Vp : (c : Dev nD) → Valuation τ sig (Elt F)) (hVp_out : ∀ c, Vp c main_v3 = (dat1 V c).arrAt 6 cfg1.N)
    (hVp_ne : ∀ c (b : Ref sig .tc), b ≠ main_v3 → Vp c b = V c b) :
    Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hd]; exact (body_obligation1 V c).loose
  hwaits := Pipeline.hwaits_of_owed_zero _ _ _ _ L lv 1 fun _ _ => by rw [hd]; rfl
  pre c := iprop(StableHlo.held (c : Thread nD τ) (Pipeline.ucRefs τ sig) (V c) ∗ Rst c)
  post c := iprop(StableHlo.held (c : Thread nD τ) (Pipeline.ucRefs τ sig) (Vp c) ∗ Rst c)
  X _ := BI.emp
  Y _ := BI.emp
  Z c := Pipeline.unscopedRest (Ix := Unit) (Name := ℕ) (U := UU) (Lvl := ℕ) spec1 c (fun b => V c b)
  hentry c := by
    rw [Pipeline.ownSems0_none]
    have hsplit := Pipeline.arrays_of_unscopedBufs (p := 1) (pcfgs (F := F)) adm pdats launch1.win launch1.arr_whole c
      ((pdats 1 c).share_full fun _ => by rw [hd]; rfl) (fun b => V c b) fun _ => by rw [hd]; rfl
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats 1 c).Φ 0 = Φ1 V c 0 from by rw [hd]; rfl]
    iintro ⟨-, -, Hr⟩
    iapply (Φ1_intro V c) $$ Hr
  hout c := by
    rw [Pipeline.ownSems0_none, show (pdats 1 c).Φ (Fin.last _) = Φ1 V c 456 from by rw [hd]; rfl]
    iintro Hr
    isplitr; · iempintro
    isplitr; · iempintro
    iapply (Φ1_elim V c) $$ Hr
  hexit c := by
    have hjoin := Pipeline.unscopedBufs_of_arrays (p := 1) (pcfgs (F := F)) adm (Ix := Unit) (Name := ℕ) (U := UU) (Lvl := ℕ) launch1.win launch1.arr_whole c
      pdats ((pdats 1 c).share_full fun _ => by rw [hd]; rfl) (fun b => V c b) (fun b => Vp c b) ((pdats 1 c).arrAt · cfg1.N)
      (fun w => by
        rw [hd]
        fin_cases w
        · exact ((dat1 V c).arrAt_in 0 rfl _).trans (hVp_ne c main_v0 (by decide)).symm
        · exact ((dat1 V c).arrAt_in 1 rfl _).trans (hVp_ne c main_v1 (by decide)).symm
        · exact ((dat1 V c).arrAt_in 2 rfl _).trans (hVp_ne c main_arg1 (by decide)).symm
        · exact ((dat1 V c).arrAt_in 3 rfl _).trans (hVp_ne c main_v2 (by decide)).symm
        · exact ((dat1 V c).arrAt_in 4 rfl _).trans (hVp_ne c main_arg3 (by decide)).symm
        · exact ((dat1 V c).arrAt_in 5 rfl _).trans (hVp_ne c main_arg5 (by decide)).symm
        · exact (hVp_out c).symm)
      (fun b hb => hVp_ne c b fun h => hb (h ▸ Finset.mem_image.mpr ⟨6, Finset.mem_univ _, rfl⟩))
    rw [← Pipeline.unscopedBufs_held (Ix := Unit) (Name := ℕ) (U := UU) (Lvl := ℕ) c (Vp c)]
    iintro ⟨Ha, HO, -, Hrest⟩
    imodintro
    isplitl [Ha Hrest]
    · iapply hjoin; isplitl [Ha] <;> iassumption
    rw [hd]
    unfold Pipeline.Dat.owesAt Pipeline.owesWithin
    icases HO with ⟨%W, -, HO⟩; iexists W; iexact HO

end Cert.Proof.Kernel

end
-- ==== Proof.K.Run.lean ====
/-
  The whole program's run: its arguments kept and its result named.
-/
module

public import proofs.«01_k».proof.Proof.K.Seg1
public import proofs.«01_k».proof.Proof.Gen.Kernel.Regions
public import Idealize.ShloMosaic.Lib.Pipeline.RegionsLoop

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

-- `θ_run_regions_kit_dev_sems`'s implicit arguments are found by unifying its conclusion with this one, which takes unfolding
-- plain definitions in a metavariable's type
set_option backward.isDefEq.respectTransparency.types false in
/-- The run, given the two calls' segments: as the generated conditional frame, with the result's buffer read too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = V5 m outs c main_v4)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v4) = V5 m outs c main_v4)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        h (Proc.devRef .tc main_v4) (Finset.mem_filter.mpr ⟨StableHlo.devRef_mem_tcRefs main_v4, by decide⟩)⟩
    · iexact HSI

/-- What the first call leaves in its result array. -/
def out0 (c : Dev nD) : Buf (Elt F) ((c : Thread nD τ).loc main_v1) := (dat0 (V1 m) c).arrAt 2 cfg0.N

/-- The contents after the first call. -/
def outsA : Outs (F := F) := fun _ r c => (Function.update (fun b : DevRef τ sig => m (c, b)) main_v1 (out0 m c) : Valuation τ sig (Elt F)) r

/-- What the second call leaves in its result array. -/
def out1 (c : Dev nD) : Buf (Elt F) ((c : Thread nD τ).loc main_v3) := (dat1 (V3 m (outsA m)) c).arrAt 6 cfg1.N

/-- The contents after either call. -/
def outs : Outs (F := F) := fun _ r c =>
  (Function.update (Function.update (fun b : DevRef τ sig => m (c, b)) main_v1 (out0 m c) : Valuation τ sig (Elt F)) main_v3 (out1 m c) : Valuation τ sig (Elt F)) r

theorem outsA_v1 (J : ℕ) (c : Dev nD) : outsA m J main_v1 c = out0 m c := Function.update_self ..
theorem outs_v3 (J : ℕ) (c : Dev nD) : outs m J main_v3 c = out1 m c := Function.update_self ..
theorem outs_v1 (J : ℕ) (c : Dev nD) : outs m J main_v1 c = out0 m c :=
  (Function.update_of_ne (by decide) _ _).trans (Function.update_self ..)

theorem V2_outs (c : Dev nD) : V2 m (outs m) c = V2 m (outsA m) c := by
  show Function.update (V1 m c) main_v1 (outs m 2 main_v1 c) = Function.update (V1 m c) main_v1 (outsA m 2 main_v1 c)
  rw [outs_v1, outsA_v1]
theorem V3_outs (c : Dev nD) : V3 m (outs m) c = V3 m (outsA m) c := by
  show StableHlo.after hostOps1 (V2 m (outs m) c) = StableHlo.after hostOps1 (V2 m (outsA m) c)
  rw [V2_outs]

/-- The two calls' proof data. -/
def pdats : (p : Fin 2) → (c : Dev nD) → Dat τ (Elt F) Unit ℕ UU ℕ (cfgs p) c
  | ⟨0, _⟩ => fun c => dat0 (V1 m) c
  | ⟨1, _⟩ => fun c => dat1 (V3 m (outs m)) c

theorem out1_eq (c : Dev nD) : out1 m c = (dat1 (V3 m (outs m)) c).arrAt 6 cfg1.N := by
  unfold out1
  rw [show V3 m (outsA m) = V3 m (outs m) from funext fun c => (V3_outs m c).symm]

/-- @main runs, keeps its arguments and leaves its result at the last valuation's. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = V5 m (outs m) c main_v4)
      ∧ r.2.sem = fun _ => 0) := by
  refine run_cond m emb₁ () Variants.none L lv (fun _ _ => rfl) ρ (outs m) (pdats m) (fun _ => 0) (fun _ => BI.emp)
    (initOf (Pipeline.cells cfgs cellOf_inj) (Pipeline.launchToks cfgs cellOf_inj)) ?_ (fun _ c => Rst c) ?_ (fun _ => .rfl)
    (reg0 (V1 m) (pdats m) rfl (V2 m (outs m)) (fun c => (Function.update_self ..).trans (outs_v1 m 2 c)) (fun c b hb => V2_of m (outs m) c b (by simpa using hb)))
    (fun _ => .rfl) (fun _ => .rfl)
    (reg1 (V3 m (outs m)) (pdats m) rfl (V4 m (outs m)) (fun c => (Function.update_self ..).trans ((outs_v3 m 4 c).trans (out1_eq m c))) (fun c b hb => V4_of m (outs m) c b (by simpa using hb)))
    (fun _ => .rfl) (fun _ => .rfl)
  · rw [ownU_emb₁]
    iintro H
    imodintro
    isplitl [H]; · iexact H
    rw [bigSep_emp_const]
    iempintro
  · have hm : (bigSep Finset.univ fun c : Dev nD => iprop(unscopedSems0 c ∗ owes (c : Thread nD τ) (0 : CellTallies nD τ sig Unit) ∅ ∗ Pipeline.launchCred (fun _ => 0) c ∗ prngReg c (ρ c) ∗ BI.emp) : sProp 𝕄)
        ⊢ (bigSep Finset.univ fun c : Dev nD => Rst c : sProp 𝕄) := bigSep_mono fun c _ => by
      show (iprop(unscopedSems0 c ∗ owes (c : Thread nD τ) (0 : CellTallies nD τ sig Unit) ∅ ∗ Pipeline.launchCred (fun _ => 0) c ∗ prngReg c (ρ c) ∗ BI.emp) : sProp 𝕄) ⊢ Rst c
      iintro ⟨-, HO, -⟩
      iexists _
      iexact HO
    iintro ⟨H, -⟩
    imodintro
    iapply hm $$ H

end Cert.Proof.Kernel

end
-- ==== Proof.KI.Body1.lean ====
module

public import proofs.«01_k».proof.Proof.Gen.KernelIdeal.Launch
public import proofs.«01_k».proof.Proof.Gen.KernelIdeal.Skeleton
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's. -/
abbrev UU : Type := UR sig nD τ

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first column step only decodes. -/
noncomputable def run1 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    { W : Bf (F := F) c arg9 // ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 f8 ∗ pt c arg9 W) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q } := by
  refine ⟨?_, fun E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.KernelIdeal

end
-- ==== Proof.KI.Body0.lean ====
module

public import proofs.«01_k».proof.Proof.Gen.KernelIdeal.Launch
public import proofs.«01_k».proof.Proof.Gen.KernelIdeal.Skeleton
public import Idealize.ShloMosaic.Lib.Tactic
public import proofs.«01_k».proof.Proof.KI.Body1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The first call's body: one product, rounded and stored whole. -/
noncomputable def run0 (c : Dev nD) (i : grid0.Coords) (arg1 : Memref sig .tc .vmem S768x5120 .bf16) (harg1 : arg1.IsWhole) (arg2 : Memref sig .tc .vmem S5120x128 .bf16) (harg2 : arg2.IsWhole) (arg3 : Memref sig .tc .vmem S768x128 .bf16) (harg3 : arg3.IsWhole)
    (f1 : Bf (F := F) c arg1) (f2 : Bf (F := F) c arg2) (f3 : Bf (F := F) c arg3) :
    { W : Bf (F := F) c arg3 // ∀ (E : Set ℕ) (Q : PUnit → sProp 𝕄),
        iprop(pt c arg1 f1 ∗ pt c arg2 f2 ∗ pt c arg3 f3
          ∗ (iprop(pt c arg1 f1 ∗ pt c arg2 f2 ∗ pt c arg3 W) -∗ Q ⟨⟩))
          ⊢ wp frame (wpE (defs₀ (F := F)) Variants.none c none) E (cc0_lora_down i arg1 harg1 arg2 harg2 arg3 harg3) Q } := by
  refine ⟨?_, fun E Q => ?run⟩
  case run =>
    iintro ⟨H1, H2, H3, Hk⟩
    sl_exec_parts!
    sl_step
    iapply Hk
    isplitl [H1]; · iexact H1
    isplitl [H2]; · iexact H2
    iexact H3

end Cert.Proof.KernelIdeal

end
-- ==== Proof.KI.Spec0.lean ====
module

public import proofs.«01_k».proof.Proof.KI.Body0
public import proofs.«01_k».proof.Proof.Gen.KernelIdeal.Points
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Owning a whole buffer's memref at contents `X` is holding the buffer at something that reads as `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

/-- A load of the whole view reads the view. -/
theorem readAt_whole {sp : Space} {S : Shape} {e : EltTy} (v : View sig .tc sp S e) {off : Fin S.rank → Nat}
    (inb : ∀ a, off a + S.size a ≤ S.size a) (h : ∀ a, off a = 0) (f : v.ty.Contents (Elt F)) :
    View.readAt (Elt F) v (Rect.unit off S.size inb).toLoadRect f = v.read (Elt F) f := by
  obtain rfl : off = fun _ => 0 := funext h
  funext x
  show v.read (Elt F) f ((Rect.whole S).emb x) = v.read (Elt F) f x
  rw [Rect.emb_whole_apply]

/-- A store of the whole view leaves its payload. -/
theorem read_store_whole {sp : Space} {S : Shape} {e : EltTy} (v : View sig .tc sp S e) {off : Fin S.rank → Nat}
    (inb : ∀ a, off a + S.size a ≤ S.size a) (h : ∀ a, off a = 0) (f : v.ty.Contents (Elt F)) (w : S.Idx → Elt F e) :
    v.read (Elt F) (v.writes (Elt F) f [(⟨Rect.unit off S.size inb, w⟩ : View.Piece (Elt F) S e)]) = w := by
  obtain rfl : off = fun _ => 0 := funext h
  funext x
  have := View.read_writes_cons_emb (Val := Elt F) v f (Rect.unit (fun _ => 0) S.size inb) w [] x
  rw [show (Rect.unit (fun _ => 0) S.size inb).emb x = x from by
    show (Rect.whole S).emb x = x
    rw [Rect.emb_whole_apply]] at this
  exact this

/-- The down projection's body over its blocks. -/
theorem bodyspec0 (c : Dev nD) (i : grid0.Coords) (arg1 : Memref sig .tc .vmem S768x5120 .bf16) (harg1 : arg1.IsWhole) (arg2 : Memref sig .tc .vmem S5120x128 .bf16) (harg2 : arg2.IsWhole) (arg3 : Memref sig .tc .vmem S768x128 .bf16) (harg3 : arg3.IsWhole)
    (X : S768x5120.Idx → Elt F .bf16) (Y : S5120x128.Idx → Elt F .bf16) (E : Set ℕ) (Q : PUnit → sProp 𝕄) :
    iprop(owns (c : Thread nD τ) arg1 fullShare X ∗ owns (c : Thread nD τ) arg2 fullShare Y ∗ (∃ Z, owns (c : Thread nD τ) arg3 fullShare Z)
        ∗ (iprop(owns (c : Thread nD τ) arg1 fullShare X ∗ owns (c : Thread nD τ) arg2 fullShare Y ∗ owns (c : Thread nD τ) arg3 fullShare (k0_pay1 X Y)) -∗ Q ⟨⟩))
      ⊢ wp frame (wpE (defs₀ (F := F)) Variants.none c none) E (cc0_lora_down i arg1 harg1 arg2 harg2 arg3 harg3) Q := by
  simp only [owns_pt c harg1, owns_pt c harg2, owns_pt c harg3]
  iintro ⟨⟨%f1, %h1, H1⟩, ⟨%f2, %h2, H2⟩, ⟨%Z, %f3, -, H3⟩, Hk⟩
  iapply ((run0 c i arg1 harg1 arg2 harg2 arg3 harg3 f1 f2 f3).2 E Q)
  isplitl [H1]; · iexact H1
  isplitl [H2]; · iexact H2
  isplitl [H3]; · iexact H3
  iintro ⟨H1, H2, H3⟩
  iapply Hk
  isplitl [H1]; · iexists _; isplitr; swap; (· iexact H1); ipureintro; exact h1
  isplitl [H2]; · iexists _; isplitr; swap; (· iexact H2); ipureintro; exact h2
  iexists _; isplitr; swap; (· iexact H3)
  ipureintro
  subst h1 h2
  refine (read_store_whole arg3.view _ (by decide) _ _).trans ?_
  exact congrArg₂ k0_pay1 (readAt_whole arg1.view _ (by decide) f1) (readAt_whole arg2.view _ (by decide) f2)

end Cert.Proof.KernelIdeal

end
-- ==== Proof.KI.Off.lean ====
/-
  The store offsets of the second call in closed form: slot, row and column of the group a point writes.
-/
module

public import proofs.«01_k».proof.Proof.Gen.KernelIdeal.Launch
public import proofs.«01_k».proof.Proof.Gen.KernelIdeal.Skeleton
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.Tactic

/-- A point of the second call's grid from its two coordinates. -/
def ci (a : Fin 19) (b : Fin 24) : grid1.Coords := fun x => match x with
  | ⟨0, _⟩ => a
  | ⟨1, _⟩ => b

theorem ci_eta (i : grid1.Coords) : ci (i 0) (i 1) = i := by
  funext x
  match x with
  | ⟨0, _⟩ => rfl
  | ⟨1, _⟩ => rfl

/-- What holds at every pair of coordinates holds at every point. -/
theorem forall_ci {P : grid1.Coords → Prop} (h : ∀ (a : Fin 19) (b : Fin 24), P (ci a b)) (i : grid1.Coords) : P i :=
  ci_eta i ▸ h (i 0) (i 1)

theorem off2_eq (i : grid1.Coords) : k1_off2 i = ![(i 0).val % 2, (i 1).val % 8 * 640 + 0, (i 1).val / 8 * 512 + 0] :=
  forall_ci (P := fun i => k1_off2 i = ![(i 0).val % 2, (i 1).val % 8 * 640 + 0, (i 1).val / 8 * 512 + 0]) (by decide +kernel) i
instance (i : grid1.Coords) : ClosedOff (k1_off2 i) := ⟨_, off2_eq i⟩
theorem off3_eq (i : grid1.Coords) : k1_off3 i = ![(i 0).val % 2, (i 1).val % 8 * 640 + 128, (i 1).val / 8 * 512 + 0] :=
  forall_ci (P := fun i => k1_off3 i = ![(i 0).val % 2, (i 1).val % 8 * 640 + 128, (i 1).val / 8 * 512 + 0]) (by decide +kernel) i
instance (i : grid1.Coords) : ClosedOff (k1_off3 i) := ⟨_, off3_eq i⟩
theorem off4_eq (i : grid1.Coords) : k1_off4 i = ![(i 0).val % 2, (i 1).val % 8 * 640 + 256, (i 1).val / 8 * 512 + 0] :=
  forall_ci (P := fun i => k1_off4 i = ![(i 0).val % 2, (i 1).val % 8 * 640 + 256, (i 1).val / 8 * 512 + 0]) (by decide +kernel) i
instance (i : grid1.Coords) : ClosedOff (k1_off4 i) := ⟨_, off4_eq i⟩
theorem off5_eq (i : grid1.Coords) : k1_off5 i = ![(i 0).val % 2, (i 1).val % 8 * 640 + 384, (i 1).val / 8 * 512 + 0] :=
  forall_ci (P := fun i => k1_off5 i = ![(i 0).val % 2, (i 1).val % 8 * 640 + 384, (i 1).val / 8 * 512 + 0]) (by decide +kernel) i
instance (i : grid1.Coords) : ClosedOff (k1_off5 i) := ⟨_, off5_eq i⟩
theorem off6_eq (i : grid1.Coords) : k1_off6 i = ![(i 0).val % 2, (i 1).val % 8 * 640 + 512, (i 1).val / 8 * 512 + 0] :=
  forall_ci (P := fun i => k1_off6 i = ![(i 0).val % 2, (i 1).val % 8 * 640 + 512, (i 1).val / 8 * 512 + 0]) (by decide +kernel) i
instance (i : grid1.Coords) : ClosedOff (k1_off6 i) := ⟨_, off6_eq i⟩
theorem off7_eq (i : grid1.Coords) : k1_off7 i = ![(i 0).val % 2, (i 1).val % 8 * 640 + 0, (i 1).val / 8 * 512 + 128] :=
  forall_ci (P := fun i => k1_off7 i = ![(i 0).val % 2, (i 1).val % 8 * 640 + 0, (i 1).val / 8 * 512 + 128]) (by decide +kernel) i
instance (i : grid1.Coords) : ClosedOff (k1_off7 i) := ⟨_, off7_eq i⟩
theorem off8_eq (i : grid1.Coords) : k1_off8 i = ![(i 0).val % 2, (i 1).val % 8 * 640 + 128, (i 1).val / 8 * 512 + 128] :=
  forall_ci (P := fun i => k1_off8 i = ![(i 0).val % 2, (i 1).val % 8 * 640 + 128, (i 1).val / 8 * 512 + 128]) (by decide +kernel) i
instance (i : grid1.Coords) : ClosedOff (k1_off8 i) := ⟨_, off8_eq i⟩
theorem off9_eq (i : grid1.Coords) : k1_off9 i = ![(i 0).val % 2, (i 1).val % 8 * 640 + 256, (i 1).val / 8 * 512 + 128] :=
  forall_ci (P := fun i => k1_off9 i = ![(i 0).val % 2, (i 1).val % 8 * 640 + 256, (i 1).val / 8 * 512 + 128]) (by decide +kernel) i
instance (i : grid1.Coords) : ClosedOff (k1_off9 i) := ⟨_, off9_eq i⟩
theorem off10_eq (i : grid1.Coords) : k1_off10 i = ![(i 0).val % 2, (i 1).val % 8 * 640 + 384, (i 1).val / 8 * 512 + 128] :=
  forall_ci (P := fun i => k1_off10 i = ![(i 0).val % 2, (i 1).val % 8 * 640 + 384, (i 1).val / 8 * 512 + 128]) (by decide +kernel) i
instance (i : grid1.Coords) : ClosedOff (k1_off10 i) := ⟨_, off10_eq i⟩
theorem off11_eq (i : grid1.Coords) : k1_off11 i = ![(i 0).val % 2, (i 1).val % 8 * 640 + 512, (i 1).val / 8 * 512 + 128] :=
  forall_ci (P := fun i => k1_off11 i = ![(i 0).val % 2, (i 1).val % 8 * 640 + 512, (i 1).val / 8 * 512 + 128]) (by decide +kernel) i
instance (i : grid1.Coords) : ClosedOff (k1_off11 i) := ⟨_, off11_eq i⟩
theorem off12_eq (i : grid1.Coords) : k1_off12 i = ![(i 0).val % 2, (i 1).val % 8 * 640 + 0, (i 1).val / 8 * 512 + 256] :=
  forall_ci (P := fun i => k1_off12 i = ![(i 0).val % 2, (i 1).val % 8 * 640 + 0, (i 1).val / 8 * 512 + 256]) (by decide +kernel) i
instance (i : grid1.Coords) : ClosedOff (k1_off12 i) := ⟨_, off12_eq i⟩
theorem off13_eq (i : grid1.Coords) : k1_off13 i = ![(i 0).val % 2, (i 1).val % 8 * 640 + 128, (i 1).val / 8 * 512 + 256] :=
  forall_ci (P := fun i => k1_off13 i = ![(i 0).val % 2, (i 1).val % 8 * 640 + 128, (i 1).val / 8 * 512 + 256]) (by decide +kernel) i
instance (i : grid1.Coords) : ClosedOff (k1_off13 i) := ⟨_, off13_eq i⟩
theorem off14_eq (i : grid1.Coords) : k1_off14 i = ![(i 0).val % 2, (i 1).val % 8 * 640 + 256, (i 1).val / 8 * 512 + 256] :=
  forall_ci (P := fun i => k1_off14 i = ![(i 0).val % 2, (i 1).val % 8 * 640 + 256, (i 1).val / 8 * 512 + 256]) (by decide +kernel) i
instance (i : grid1.Coords) : ClosedOff (k1_off14 i) := ⟨_, off14_eq i⟩
theorem off15_eq (i : grid1.Coords) : k1_off15 i = ![(i 0).val % 2, (i 1).val % 8 * 640 + 384, (i 1).val / 8 * 512 + 256] :=
  forall_ci (P := fun i => k1_off15 i = ![(i 0).val % 2, (i 1).val % 8 * 640 + 384, (i 1).val / 8 * 512 + 256]) (by decide +kernel) i
instance (i : grid1.Coords) : ClosedOff (k1_off15 i) := ⟨_, off15_eq i⟩
theorem off16_eq (i : grid1.Coords) : k1_off16 i = ![(i 0).val % 2, (i 1).val % 8 * 640 + 512, (i 1).val / 8 * 512 + 256] :=
  forall_ci (P := fun i => k1_off16 i = ![(i 0).val % 2, (i 1).val % 8 * 640 + 512, (i 1).val / 8 * 512 + 256]) (by decide +kernel) i
instance (i : grid1.Coords) : ClosedOff (k1_off16 i) := ⟨_, off16_eq i⟩
theorem off17_eq (i : grid1.Coords) : k1_off17 i = ![(i 0).val % 2, (i 1).val % 8 * 640 + 0, (i 1).val / 8 * 512 + 384] :=
  forall_ci (P := fun i => k1_off17 i = ![(i 0).val % 2, (i 1).val % 8 * 640 + 0, (i 1).val / 8 * 512 + 384]) (by decide +kernel) i
instance (i : grid1.Coords) : ClosedOff (k1_off17 i) := ⟨_, off17_eq i⟩
theorem off18_eq (i : grid1.Coords) : k1_off18 i = ![(i 0).val % 2, (i 1).val % 8 * 640 + 128, (i 1).val / 8 * 512 + 384] :=
  forall_ci (P := fun i => k1_off18 i = ![(i 0).val % 2, (i 1).val % 8 * 640 + 128, (i 1).val / 8 * 512 + 384]) (by decide +kernel) i
instance (i : grid1.Coords) : ClosedOff (k1_off18 i) := ⟨_, off18_eq i⟩
theorem off19_eq (i : grid1.Coords) : k1_off19 i = ![(i 0).val % 2, (i 1).val % 8 * 640 + 256, (i 1).val / 8 * 512 + 384] :=
  forall_ci (P := fun i => k1_off19 i = ![(i 0).val % 2, (i 1).val % 8 * 640 + 256, (i 1).val / 8 * 512 + 384]) (by decide +kernel) i
instance (i : grid1.Coords) : ClosedOff (k1_off19 i) := ⟨_, off19_eq i⟩
theorem off20_eq (i : grid1.Coords) : k1_off20 i = ![(i 0).val % 2, (i 1).val % 8 * 640 + 384, (i 1).val / 8 * 512 + 384] :=
  forall_ci (P := fun i => k1_off20 i = ![(i 0).val % 2, (i 1).val % 8 * 640 + 384, (i 1).val / 8 * 512 + 384]) (by decide +kernel) i
instance (i : grid1.Coords) : ClosedOff (k1_off20 i) := ⟨_, off20_eq i⟩
theorem off21_eq (i : grid1.Coords) : k1_off21 i = ![(i 0).val % 2, (i 1).val % 8 * 640 + 512, (i 1).val / 8 * 512 + 384] :=
  forall_ci (P := fun i => k1_off21 i = ![(i 0).val % 2, (i 1).val % 8 * 640 + 512, (i 1).val / 8 * 512 + 384]) (by decide +kernel) i
instance (i : grid1.Coords) : ClosedOff (k1_off21 i) := ⟨_, off21_eq i⟩
theorem off23_eq (i : grid1.Coords) : k1_off23 i = ![(i 0).val % 2, (i 1).val % 8 * 640 + 0, (i 1).val / 8 * 512 + 0] :=
  forall_ci (P := fun i => k1_off23 i = ![(i 0).val % 2, (i 1).val % 8 * 640 + 0, (i 1).val / 8 * 512 + 0]) (by decide +kernel) i
instance (i : grid1.Coords) : ClosedOff (k1_off23 i) := ⟨_, off23_eq i⟩
theorem off24_eq (i : grid1.Coords) : k1_off24 i = ![(i 0).val % 2, (i 1).val % 8 * 640 + 128, (i 1).val / 8 * 512 + 0] :=
  forall_ci (P := fun i => k1_off24 i = ![(i 0).val % 2, (i 1).val % 8 * 640 + 128, (i 1).val / 8 * 512 + 0]) (by decide +kernel) i
instance (i : grid1.Coords) : ClosedOff (k1_off24 i) := ⟨_, off24_eq i⟩
theorem off25_eq (i : grid1.Coords) : k1_off25 i = ![(i 0).val % 2, (i 1).val % 8 * 640 + 256, (i 1).val / 8 * 512 + 0] :=
  forall_ci (P := fun i => k1_off25 i = ![(i 0).val % 2, (i 1).val % 8 * 640 + 256, (i 1).val / 8 * 512 + 0]) (by decide +kernel) i
instance (i : grid1.Coords) : ClosedOff (k1_off25 i) := ⟨_, off25_eq i⟩
theorem off26_eq (i : grid1.Coords) : k1_off26 i = ![(i 0).val % 2, (i 1).val % 8 * 640 + 384, (i 1).val / 8 * 512 + 0] :=
  forall_ci (P := fun i => k1_off26 i = ![(i 0).val % 2, (i 1).val % 8 * 640 + 384, (i 1).val / 8 * 512 + 0]) (by decide +kernel) i
instance (i : grid1.Coords) : ClosedOff (k1_off26 i) := ⟨_, off26_eq i⟩
theorem off27_eq (i : grid1.Coords) : k1_off27 i = ![(i 0).val % 2, (i 1).val % 8 * 640 + 512, (i 1).val / 8 * 512 + 0] :=
  forall_ci (P := fun i => k1_off27 i = ![(i 0).val % 2, (i 1).val % 8 * 640 + 512, (i 1).val / 8 * 512 + 0]) (by decide +kernel) i
instance (i : grid1.Coords) : ClosedOff (k1_off27 i) := ⟨_, off27_eq i⟩
theorem off28_eq (i : grid1.Coords) : k1_off28 i = ![(i 0).val % 2, (i 1).val % 8 * 640 + 0, (i 1).val / 8 * 512 + 128] :=
  forall_ci (P := fun i => k1_off28 i = ![(i 0).val % 2, (i 1).val % 8 * 640 + 0, (i 1).val / 8 * 512 + 128]) (by decide +kernel) i
instance (i : grid1.Coords) : ClosedOff (k1_off28 i) := ⟨_, off28_eq i⟩
theorem off29_eq (i : grid1.Coords) : k1_off29 i = ![(i 0).val % 2, (i 1).val % 8 * 640 + 128, (i 1).val / 8 * 512 + 128] :=
  forall_ci (P := fun i => k1_off29 i = ![(i 0).val % 2, (i 1).val % 8 * 640 + 128, (i 1).val / 8 * 512 + 128]) (by decide +kernel) i
instance (i : grid1.Coords) : ClosedOff (k1_off29 i) := ⟨_, off29_eq i⟩
theorem off30_eq (i : grid1.Coords) : k1_off30 i = ![(i 0).val % 2, (i 1).val % 8 * 640 + 256, (i 1).val / 8 * 512 + 128] :=
  forall_ci (P := fun i => k1_off30 i = ![(i 0).val % 2, (i 1).val % 8 * 640 + 256, (i 1).val / 8 * 512 + 128]) (by decide +kernel) i
instance (i : grid1.Coords) : ClosedOff (k1_off30 i) := ⟨_, off30_eq i⟩
theorem off31_eq (i : grid1.Coords) : k1_off31 i = ![(i 0).val % 2, (i 1).val % 8 * 640 + 384, (i 1).val / 8 * 512 + 128] :=
  forall_ci (P := fun i => k1_off31 i = ![(i 0).val % 2, (i 1).val % 8 * 640 + 384, (i 1).val / 8 * 512 + 128]) (by decide +kernel) i
instance (i : grid1.Coords) : ClosedOff (k1_off31 i) := ⟨_, off31_eq i⟩
theorem off32_eq (i : grid1.Coords) : k1_off32 i = ![(i 0).val % 2, (i 1).val % 8 * 640 + 512, (i 1).val / 8 * 512 + 128] :=
  forall_ci (P := fun i => k1_off32 i = ![(i 0).val % 2, (i 1).val % 8 * 640 + 512, (i 1).val / 8 * 512 + 128]) (by decide +kernel) i
instance (i : grid1.Coords) : ClosedOff (k1_off32 i) := ⟨_, off32_eq i⟩
theorem off33_eq (i : grid1.Coords) : k1_off33 i = ![(i 0).val % 2, (i 1).val % 8 * 640 + 0, (i 1).val / 8 * 512 + 256] :=
  forall_ci (P := fun i => k1_off33 i = ![(i 0).val % 2, (i 1).val % 8 * 640 + 0, (i 1).val / 8 * 512 + 256]) (by decide +kernel) i
instance (i : grid1.Coords) : ClosedOff (k1_off33 i) := ⟨_, off33_eq i⟩
theorem off34_eq (i : grid1.Coords) : k1_off34 i = ![(i 0).val % 2, (i 1).val % 8 * 640 + 128, (i 1).val / 8 * 512 + 256] :=
  forall_ci (P := fun i => k1_off34 i = ![(i 0).val % 2, (i 1).val % 8 * 640 + 128, (i 1).val / 8 * 512 + 256]) (by decide +kernel) i
instance (i : grid1.Coords) : ClosedOff (k1_off34 i) := ⟨_, off34_eq i⟩
theorem off35_eq (i : grid1.Coords) : k1_off35 i = ![(i 0).val % 2, (i 1).val % 8 * 640 + 256, (i 1).val / 8 * 512 + 256] :=
  forall_ci (P := fun i => k1_off35 i = ![(i 0).val % 2, (i 1).val % 8 * 640 + 256, (i 1).val / 8 * 512 + 256]) (by decide +kernel) i
instance (i : grid1.Coords) : ClosedOff (k1_off35 i) := ⟨_, off35_eq i⟩
theorem off36_eq (i : grid1.Coords) : k1_off36 i = ![(i 0).val % 2, (i 1).val % 8 * 640 + 384, (i 1).val / 8 * 512 + 256] :=
  forall_ci (P := fun i => k1_off36 i = ![(i 0).val % 2, (i 1).val % 8 * 640 + 384, (i 1).val / 8 * 512 + 256]) (by decide +kernel) i
instance (i : grid1.Coords) : ClosedOff (k1_off36 i) := ⟨_, off36_eq i⟩
theorem off37_eq (i : grid1.Coords) : k1_off37 i = ![(i 0).val % 2, (i 1).val % 8 * 640 + 512, (i 1).val / 8 * 512 + 256] :=
  forall_ci (P := fun i => k1_off37 i = ![(i 0).val % 2, (i 1).val % 8 * 640 + 512, (i 1).val / 8 * 512 + 256]) (by decide +kernel) i
instance (i : grid1.Coords) : ClosedOff (k1_off37 i) := ⟨_, off37_eq i⟩
theorem off38_eq (i : grid1.Coords) : k1_off38 i = ![(i 0).val % 2, (i 1).val % 8 * 640 + 0, (i 1).val / 8 * 512 + 384] :=
  forall_ci (P := fun i => k1_off38 i = ![(i 0).val % 2, (i 1).val % 8 * 640 + 0, (i 1).val / 8 * 512 + 384]) (by decide +kernel) i
instance (i : grid1.Coords) : ClosedOff (k1_off38 i) := ⟨_, off38_eq i⟩
theorem off39_eq (i : grid1.Coords) : k1_off39 i = ![(i 0).val % 2, (i 1).val % 8 * 640 + 128, (i 1).val / 8 * 512 + 384] :=
  forall_ci (P := fun i => k1_off39 i = ![(i 0).val % 2, (i 1).val % 8 * 640 + 128, (i 1).val / 8 * 512 + 384]) (by decide +kernel) i
instance (i : grid1.Coords) : ClosedOff (k1_off39 i) := ⟨_, off39_eq i⟩
theorem off40_eq (i : grid1.Coords) : k1_off40 i = ![(i 0).val % 2, (i 1).val % 8 * 640 + 256, (i 1).val / 8 * 512 + 384] :=
  forall_ci (P := fun i => k1_off40 i = ![(i 0).val % 2, (i 1).val % 8 * 640 + 256, (i 1).val / 8 * 512 + 384]) (by decide +kernel) i
instance (i : grid1.Coords) : ClosedOff (k1_off40 i) := ⟨_, off40_eq i⟩
theorem off41_eq (i : grid1.Coords) : k1_off41 i = ![(i 0).val % 2, (i 1).val % 8 * 640 + 384, (i 1).val / 8 * 512 + 384] :=
  forall_ci (P := fun i => k1_off41 i = ![(i 0).val % 2, (i 1).val % 8 * 640 + 384, (i 1).val / 8 * 512 + 384]) (by decide +kernel) i
instance (i : grid1.Coords) : ClosedOff (k1_off41 i) := ⟨_, off41_eq i⟩
theorem off42_eq (i : grid1.Coords) : k1_off42 i = ![(i 0).val % 2, (i 1).val % 8 * 640 + 512, (i 1).val / 8 * 512 + 384] :=
  forall_ci (P := fun i => k1_off42 i = ![(i 0).val % 2, (i 1).val % 8 * 640 + 512, (i 1).val / 8 * 512 + 384]) (by decide +kernel) i
instance (i : grid1.Coords) : ClosedOff (k1_off42 i) := ⟨_, off42_eq i⟩
theorem off43_eq (i : grid1.Coords) : k1_off43 i = ![((i 0).val + 1) % 2, 0, 0] :=
  forall_ci (P := fun i => k1_off43 i = ![((i 0).val + 1) % 2, 0, 0]) (by decide +kernel) i
instance (i : grid1.Coords) : ClosedOff (k1_off43 i) := ⟨_, off43_eq i⟩

theorem cond1_iff (i : grid1.Coords) : k1_cond1 i = 1#1 ↔ (i 0).val = 0 :=
  forall_ci (P := fun i => k1_cond1 i = 1#1 ↔ (i 0).val = 0) (by decide +kernel) i

theorem cond2_iff (i : grid1.Coords) : k1_cond2 i = 1#1 ↔ (i 0).val ≠ 0 :=
  forall_ci (P := fun i => k1_cond2 i = 1#1 ↔ (i 0).val ≠ 0) (by decide +kernel) i

end Cert.Proof.KernelIdeal

end
-- ==== Proof.KI.Body2.lean ====
module

public import proofs.«01_k».proof.Proof.Gen.KernelIdeal.Launch
public import proofs.«01_k».proof.Proof.Gen.KernelIdeal.Skeleton
public import Idealize.ShloMosaic.Lib.Tactic
public import proofs.«01_k».proof.Proof.KI.Body1
public import proofs.«01_k».proof.Proof.KI.Off

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The later column steps decode the next panel and multiply by the current one. -/
noncomputable def run2 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    (W8 : Bf (F := F) c arg8) ×' { W9 : Bf (F := F) c arg9 // ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 W8 ∗ pt c arg9 W9) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q } := by
  refine ⟨?_, ?_, fun E Q => ?run⟩
  case run =>
    iintro ⟨H2, H3, H4, H5, H6, H7, H8, H9, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Proof.KernelIdeal

end
-- ==== Proof.KI.Decode.lean ====
/-
  A stored group of the decoded weight matrix, entry by entry.
-/
module

public import proofs.«01_k».proof.Proof.Gen.KernelIdeal.Skeleton
public import proofs.«01_k».proof.Proof.Scalar
public import Idealize.ShloMosaic.Lib.Pointwise
public import Idealize.ShloMosaic.Lib.Tactic

@[expose] public section

set_option maxRecDepth 16384

noncomputable section

namespace Cert.Proof.KernelIdeal

open Cert.KernelIdeal Cert.KernelIdeal.Gen
open Idealize.ShloMosaic

variable {F : FTy → Type} [FloatOps F]

theorem pay5_apply (q : Vec F S64x128 .i8) (sc : Vec F S1x1x128 .f32) (w : Vec F S1x64x128 .i32) (r : Fin 128) (c : Fin 128) :
    k1_pay5 q sc w (ix3 (0 : Fin 1) r c)
      = elt (q (ix2 ⟨r.val / 2, by omega⟩ c)) (sc (ix3 0 0 c)) (w (ix3 0 ⟨r.val / 2, by omega⟩ c)) (r.val % 2) := by
  unfold k1_pay5
  pointwise
  rw [bitcast_rows, bitcast_rows]
  pointwise
  rfl

end Cert.Proof.KernelIdeal

end
-- ==== Proof.KI.Groups.lean ====
/-
  Every stored group is the same function of the bytes, the scales and the words read for it.
-/
module

public import proofs.«01_k».proof.Proof.Gen.KernelIdeal.Skeleton
public import Idealize.ShloMosaic.Lib.Pointwise
public import Idealize.ShloMosaic.Lib.Tactic

@[expose] public section

set_option maxRecDepth 16384

noncomputable section

namespace Cert.Proof.KernelIdeal

open Cert.KernelIdeal Cert.KernelIdeal.Gen
open Idealize.ShloMosaic

variable {F : FTy → Type} [FloatOps F]

theorem grp1_0 (q : Vec F S64x128 .i8) (sc : Vec F S1x1x128 .f32) (w : Vec F S1x64x128 .i32) : k1_pay4 (k1_pay3 q sc w) = k1_pay5 q sc w := rfl
theorem grp1_2 (q : Vec F S64x128 .i8) (sc : Vec F S1x1x128 .f32) (w : Vec F S1x64x128 .i32) : k1_pay8 (k1_pay6 q) (k1_pay7 q) 240#32 sc w = k1_pay5 q sc w := rfl
theorem grp1_3 (q : Vec F S64x128 .i8) (sc : Vec F S1x1x128 .f32) (w : Vec F S1x64x128 .i32) : k1_pay10 (k1_pay9 q) sc w = k1_pay5 q sc w := rfl
theorem grp1_4 (q : Vec F S64x128 .i8) (sc : Vec F S1x1x128 .f32) (w : Vec F S1x64x128 .i32) : k1_pay12 (k1_pay11 q sc w) = k1_pay5 q sc w := rfl
theorem grp1_5 (q : Vec F S64x128 .i8) (sc : Vec F S1x1x128 .f32) (w : Vec F S1x64x128 .i32) : k1_pay13 q sc w = k1_pay5 q sc w := rfl
theorem grp1_6 (q : Vec F S64x128 .i8) (sc : Vec F S1x1x128 .f32) (w : Vec F S1x64x128 .i32) : k1_pay16 (k1_pay14 q) (k1_pay15 q) 240#32 sc w = k1_pay5 q sc w := rfl
theorem grp1_7 (q : Vec F S64x128 .i8) (sc : Vec F S1x1x128 .f32) (w : Vec F S1x64x128 .i32) : k1_pay18 (k1_pay17 q) sc w = k1_pay5 q sc w := rfl
theorem grp1_8 (q : Vec F S64x128 .i8) (sc : Vec F S1x1x128 .f32) (w : Vec F S1x64x128 .i32) : k1_pay20 (k1_pay19 q sc w) = k1_pay5 q sc w := rfl
theorem grp1_9 (q : Vec F S64x128 .i8) (sc : Vec F S1x1x128 .f32) (w : Vec F S1x64x128 .i32) : k1_pay21 q sc w = k1_pay5 q sc w := rfl
theorem grp1_10 (q : Vec F S64x128 .i8) (sc : Vec F S1x1x128 .f32) (w : Vec F S1x64x128 .i32) : k1_pay24 (k1_pay22 q) (k1_pay23 q) 240#32 sc w = k1_pay5 q sc w := rfl
theorem grp1_11 (q : Vec F S64x128 .i8) (sc : Vec F S1x1x128 .f32) (w : Vec F S1x64x128 .i32) : k1_pay26 (k1_pay25 q) sc w = k1_pay5 q sc w := rfl
theorem grp1_12 (q : Vec F S64x128 .i8) (sc : Vec F S1x1x128 .f32) (w : Vec F S1x64x128 .i32) : k1_pay28 (k1_pay27 q sc w) = k1_pay5 q sc w := rfl
theorem grp1_13 (q : Vec F S64x128 .i8) (sc : Vec F S1x1x128 .f32) (w : Vec F S1x64x128 .i32) : k1_pay29 q sc w = k1_pay5 q sc w := rfl
theorem grp1_14 (q : Vec F S64x128 .i8) (sc : Vec F S1x1x128 .f32) (w : Vec F S1x64x128 .i32) : k1_pay32 (k1_pay30 q) (k1_pay31 q) 240#32 sc w = k1_pay5 q sc w := rfl
theorem grp1_15 (q : Vec F S64x128 .i8) (sc : Vec F S1x1x128 .f32) (w : Vec F S1x64x128 .i32) : k1_pay34 (k1_pay33 q) sc w = k1_pay5 q sc w := rfl
theorem grp1_16 (q : Vec F S64x128 .i8) (sc : Vec F S1x1x128 .f32) (w : Vec F S1x64x128 .i32) : k1_pay36 (k1_pay35 q sc w) = k1_pay5 q sc w := rfl
theorem grp1_17 (q : Vec F S64x128 .i8) (sc : Vec F S1x1x128 .f32) (w : Vec F S1x64x128 .i32) : k1_pay37 q sc w = k1_pay5 q sc w := rfl
theorem grp1_18 (q : Vec F S64x128 .i8) (sc : Vec F S1x1x128 .f32) (w : Vec F S1x64x128 .i32) : k1_pay40 (k1_pay38 q) (k1_pay39 q) 240#32 sc w = k1_pay5 q sc w := rfl
theorem grp1_19 (q : Vec F S64x128 .i8) (sc : Vec F S1x1x128 .f32) (w : Vec F S1x64x128 .i32) : k1_pay1 (k1_pay41 q) sc w = k1_pay5 q sc w := rfl
theorem grp2_0 (q : Vec F S64x128 .i8) (sc : Vec F S1x1x128 .f32) (w : Vec F S1x64x128 .i32) : k1_pay43 (k1_pay42 q sc w) = k1_pay5 q sc w := rfl
theorem grp2_1 (q : Vec F S64x128 .i8) (sc : Vec F S1x1x128 .f32) (w : Vec F S1x64x128 .i32) : k1_pay44 q sc w = k1_pay5 q sc w := rfl
theorem grp2_2 (q : Vec F S64x128 .i8) (sc : Vec F S1x1x128 .f32) (w : Vec F S1x64x128 .i32) : k1_pay47 (k1_pay45 q) (k1_pay46 q) 240#32 sc w = k1_pay5 q sc w := rfl
theorem grp2_3 (q : Vec F S64x128 .i8) (sc : Vec F S1x1x128 .f32) (w : Vec F S1x64x128 .i32) : k1_pay49 (k1_pay48 q) sc w = k1_pay5 q sc w := rfl
theorem grp2_4 (q : Vec F S64x128 .i8) (sc : Vec F S1x1x128 .f32) (w : Vec F S1x64x128 .i32) : k1_pay51 (k1_pay50 q sc w) = k1_pay5 q sc w := rfl
theorem grp2_5 (q : Vec F S64x128 .i8) (sc : Vec F S1x1x128 .f32) (w : Vec F S1x64x128 .i32) : k1_pay52 q sc w = k1_pay5 q sc w := rfl
theorem grp2_6 (q : Vec F S64x128 .i8) (sc : Vec F S1x1x128 .f32) (w : Vec F S1x64x128 .i32) : k1_pay55 (k1_pay53 q) (k1_pay54 q) 240#32 sc w = k1_pay5 q sc w := rfl
theorem grp2_7 (q : Vec F S64x128 .i8) (sc : Vec F S1x1x128 .f32) (w : Vec F S1x64x128 .i32) : k1_pay57 (k1_pay56 q) sc w = k1_pay5 q sc w := rfl
theorem grp2_8 (q : Vec F S64x128 .i8) (sc : Vec F S1x1x128 .f32) (w : Vec F S1x64x128 .i32) : k1_pay59 (k1_pay58 q sc w) = k1_pay5 q sc w := rfl
theorem grp2_9 (q : Vec F S64x128 .i8) (sc : Vec F S1x1x128 .f32) (w : Vec F S1x64x128 .i32) : k1_pay60 q sc w = k1_pay5 q sc w := rfl
theorem grp2_10 (q : Vec F S64x128 .i8) (sc : Vec F S1x1x128 .f32) (w : Vec F S1x64x128 .i32) : k1_pay63 (k1_pay61 q) (k1_pay62 q) 240#32 sc w = k1_pay5 q sc w := rfl
theorem grp2_11 (q : Vec F S64x128 .i8) (sc : Vec F S1x1x128 .f32) (w : Vec F S1x64x128 .i32) : k1_pay65 (k1_pay64 q) sc w = k1_pay5 q sc w := rfl
theorem grp2_12 (q : Vec F S64x128 .i8) (sc : Vec F S1x1x128 .f32) (w : Vec F S1x64x128 .i32) : k1_pay67 (k1_pay66 q sc w) = k1_pay5 q sc w := rfl
theorem grp2_13 (q : Vec F S64x128 .i8) (sc : Vec F S1x1x128 .f32) (w : Vec F S1x64x128 .i32) : k1_pay68 q sc w = k1_pay5 q sc w := rfl
theorem grp2_14 (q : Vec F S64x128 .i8) (sc : Vec F S1x1x128 .f32) (w : Vec F S1x64x128 .i32) : k1_pay71 (k1_pay69 q) (k1_pay70 q) 240#32 sc w = k1_pay5 q sc w := rfl
theorem grp2_15 (q : Vec F S64x128 .i8) (sc : Vec F S1x1x128 .f32) (w : Vec F S1x64x128 .i32) : k1_pay73 (k1_pay72 q) sc w = k1_pay5 q sc w := rfl
theorem grp2_16 (q : Vec F S64x128 .i8) (sc : Vec F S1x1x128 .f32) (w : Vec F S1x64x128 .i32) : k1_pay75 (k1_pay74 q sc w) = k1_pay5 q sc w := rfl
theorem grp2_17 (q : Vec F S64x128 .i8) (sc : Vec F S1x1x128 .f32) (w : Vec F S1x64x128 .i32) : k1_pay76 q sc w = k1_pay5 q sc w := rfl
theorem grp2_18 (q : Vec F S64x128 .i8) (sc : Vec F S1x1x128 .f32) (w : Vec F S1x64x128 .i32) : k1_pay79 (k1_pay77 q) (k1_pay78 q) 240#32 sc w = k1_pay5 q sc w := rfl
theorem grp2_19 (q : Vec F S64x128 .i8) (sc : Vec F S1x1x128 .f32) (w : Vec F S1x64x128 .i32) : k1_pay81 (k1_pay80 q) sc w = k1_pay5 q sc w := rfl

end Cert.Proof.KernelIdeal

end
-- ==== Proof.KI.Pieces.lean ====
/-
  The twenty groups a point of the second call stores, and what the scratch buffer reads as after them.
-/
module

public import proofs.«01_k».proof.Proof.KI.Body2
public import proofs.«01_k».proof.Proof.KI.Decode
public import proofs.«01_k».proof.Proof.KI.Groups

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

theorem inb4 (g c : ℕ) (hg : g < 5) (hc : c < 4) : ∀ a, (![64 * g, 128 * c] : Fin 2 → ℕ) a + S64x128.size a ≤ S320x512.size a := by
  intro a; fin_cases a
  · show 64 * g + 64 ≤ 320; omega
  · show 128 * c + 128 ≤ 512; omega
theorem inb5 (g c : ℕ) (hg : g < 5) (hc : c < 4) : ∀ a, (![0, g, 128 * c] : Fin 3 → ℕ) a + S1x1x128.size a ≤ S1x5x512.size a := by
  intro a; fin_cases a
  · show 0 + 1 ≤ 1; omega
  · show g + 1 ≤ 5; omega
  · show 128 * c + 128 ≤ 512; omega
theorem inb6 (g c : ℕ) (hg : g < 5) (hc : c < 4) : ∀ a, (![c, 64 * g, 0] : Fin 3 → ℕ) a + S1x64x128.size a ≤ S4x320x128.size a := by
  intro a; fin_cases a
  · show c + 1 ≤ 4; omega
  · show 64 * g + 64 ≤ 320; omega
  · show 0 + 128 ≤ 128; omega

/-- Group `(g, c)` stored at an offset: 128 rows by 128 columns. -/
def piece {d : Dev nD} (arg4 : Memref sig .tc .vmem S320x512 .i8) (arg5 : Memref sig .tc .vmem S1x5x512 .f32) (arg6 : Memref sig .tc .vmem S4x320x128 .i32)
    (f4 : Bf (F := F) d arg4) (f5 : Bf (F := F) d arg5) (f6 : Bf (F := F) d arg6) (off : Fin 3 → ℕ) (inb : ∀ a, off a + S1x128x128.size a ≤ S2x5120x1536.size a)
    (g c : ℕ) (hg : g < 5) (hc : c < 4) : View.Piece (Elt F) S2x5120x1536 .bf16 :=
  ⟨Rect.unit off S1x128x128.size inb,
    k1_pay5 (View.readAt (Elt F) arg4.view (Rect.unit (s := S320x512) ![64 * g, 128 * c] S64x128.size (inb4 g c hg hc)).toLoadRect f4)
      (View.readAt (Elt F) arg5.view (Rect.unit (s := S1x5x512) ![0, g, 128 * c] S1x1x128.size (inb5 g c hg hc)).toLoadRect f5)
      (View.readAt (Elt F) arg6.view (Rect.unit (s := S4x320x128) ![c, 64 * g, 0] S1x64x128.size (inb6 g c hg hc)).toLoadRect f6)⟩

section
variable {d : Dev nD} (i : grid1.Coords) (arg4 : Memref sig .tc .vmem S320x512 .i8) (arg5 : Memref sig .tc .vmem S1x5x512 .f32) (arg6 : Memref sig .tc .vmem S4x320x128 .i32)
    (f4 : Bf (F := F) d arg4) (f5 : Bf (F := F) d arg5) (f6 : Bf (F := F) d arg6)

/-- The groups of the first column step, last one first. -/
def pieces1 (hc1 : k1_cond1 i = 1#1) : List (View.Piece (Elt F) S2x5120x1536 .bf16) :=
  [piece arg4 arg5 arg6 f4 f5 f6 (k1_off21 i) (k1_off21_inb i hc1) 4 3 (by omega) (by omega),
    piece arg4 arg5 arg6 f4 f5 f6 (k1_off20 i) (k1_off20_inb i hc1) 3 3 (by omega) (by omega),
    piece arg4 arg5 arg6 f4 f5 f6 (k1_off19 i) (k1_off19_inb i hc1) 2 3 (by omega) (by omega),
    piece arg4 arg5 arg6 f4 f5 f6 (k1_off18 i) (k1_off18_inb i hc1) 1 3 (by omega) (by omega),
    piece arg4 arg5 arg6 f4 f5 f6 (k1_off17 i) (k1_off17_inb i hc1) 0 3 (by omega) (by omega),
    piece arg4 arg5 arg6 f4 f5 f6 (k1_off16 i) (k1_off16_inb i hc1) 4 2 (by omega) (by omega),
    piece arg4 arg5 arg6 f4 f5 f6 (k1_off15 i) (k1_off15_inb i hc1) 3 2 (by omega) (by omega),
    piece arg4 arg5 arg6 f4 f5 f6 (k1_off14 i) (k1_off14_inb i hc1) 2 2 (by omega) (by omega),
    piece arg4 arg5 arg6 f4 f5 f6 (k1_off13 i) (k1_off13_inb i hc1) 1 2 (by omega) (by omega),
    piece arg4 arg5 arg6 f4 f5 f6 (k1_off12 i) (k1_off12_inb i hc1) 0 2 (by omega) (by omega),
    piece arg4 arg5 arg6 f4 f5 f6 (k1_off11 i) (k1_off11_inb i hc1) 4 1 (by omega) (by omega),
    piece arg4 arg5 arg6 f4 f5 f6 (k1_off10 i) (k1_off10_inb i hc1) 3 1 (by omega) (by omega),
    piece arg4 arg5 arg6 f4 f5 f6 (k1_off9 i) (k1_off9_inb i hc1) 2 1 (by omega) (by omega),
    piece arg4 arg5 arg6 f4 f5 f6 (k1_off8 i) (k1_off8_inb i hc1) 1 1 (by omega) (by omega),
    piece arg4 arg5 arg6 f4 f5 f6 (k1_off7 i) (k1_off7_inb i hc1) 0 1 (by omega) (by omega),
    piece arg4 arg5 arg6 f4 f5 f6 (k1_off6 i) (k1_off6_inb i hc1) 4 0 (by omega) (by omega),
    piece arg4 arg5 arg6 f4 f5 f6 (k1_off5 i) (k1_off5_inb i hc1) 3 0 (by omega) (by omega),
    piece arg4 arg5 arg6 f4 f5 f6 (k1_off4 i) (k1_off4_inb i hc1) 2 0 (by omega) (by omega),
    piece arg4 arg5 arg6 f4 f5 f6 (k1_off3 i) (k1_off3_inb i hc1) 1 0 (by omega) (by omega),
    piece arg4 arg5 arg6 f4 f5 f6 (k1_off2 i) (k1_off2_inb i hc1) 0 0 (by omega) (by omega)]

/-- The groups of a later column step. -/
def pieces2 (hc2 : k1_cond2 i = 1#1) : List (View.Piece (Elt F) S2x5120x1536 .bf16) :=
  [piece arg4 arg5 arg6 f4 f5 f6 (k1_off42 i) (k1_off42_inb i hc2) 4 3 (by omega) (by omega),
    piece arg4 arg5 arg6 f4 f5 f6 (k1_off41 i) (k1_off41_inb i hc2) 3 3 (by omega) (by omega),
    piece arg4 arg5 arg6 f4 f5 f6 (k1_off40 i) (k1_off40_inb i hc2) 2 3 (by omega) (by omega),
    piece arg4 arg5 arg6 f4 f5 f6 (k1_off39 i) (k1_off39_inb i hc2) 1 3 (by omega) (by omega),
    piece arg4 arg5 arg6 f4 f5 f6 (k1_off38 i) (k1_off38_inb i hc2) 0 3 (by omega) (by omega),
    piece arg4 arg5 arg6 f4 f5 f6 (k1_off37 i) (k1_off37_inb i hc2) 4 2 (by omega) (by omega),
    piece arg4 arg5 arg6 f4 f5 f6 (k1_off36 i) (k1_off36_inb i hc2) 3 2 (by omega) (by omega),
    piece arg4 arg5 arg6 f4 f5 f6 (k1_off35 i) (k1_off35_inb i hc2) 2 2 (by omega) (by omega),
    piece arg4 arg5 arg6 f4 f5 f6 (k1_off34 i) (k1_off34_inb i hc2) 1 2 (by omega) (by omega),
    piece arg4 arg5 arg6 f4 f5 f6 (k1_off33 i) (k1_off33_inb i hc2) 0 2 (by omega) (by omega),
    piece arg4 arg5 arg6 f4 f5 f6 (k1_off32 i) (k1_off32_inb i hc2) 4 1 (by omega) (by omega),
    piece arg4 arg5 arg6 f4 f5 f6 (k1_off31 i) (k1_off31_inb i hc2) 3 1 (by omega) (by omega),
    piece arg4 arg5 arg6 f4 f5 f6 (k1_off30 i) (k1_off30_inb i hc2) 2 1 (by omega) (by omega),
    piece arg4 arg5 arg6 f4 f5 f6 (k1_off29 i) (k1_off29_inb i hc2) 1 1 (by omega) (by omega),
    piece arg4 arg5 arg6 f4 f5 f6 (k1_off28 i) (k1_off28_inb i hc2) 0 1 (by omega) (by omega),
    piece arg4 arg5 arg6 f4 f5 f6 (k1_off27 i) (k1_off27_inb i hc2) 4 0 (by omega) (by omega),
    piece arg4 arg5 arg6 f4 f5 f6 (k1_off26 i) (k1_off26_inb i hc2) 3 0 (by omega) (by omega),
    piece arg4 arg5 arg6 f4 f5 f6 (k1_off25 i) (k1_off25_inb i hc2) 2 0 (by omega) (by omega),
    piece arg4 arg5 arg6 f4 f5 f6 (k1_off24 i) (k1_off24_inb i hc2) 1 0 (by omega) (by omega),
    piece arg4 arg5 arg6 f4 f5 f6 (k1_off23 i) (k1_off23_inb i hc2) 0 0 (by omega) (by omega)]

theorem pieces1_run (hc1 : k1_cond1 i = 1#1) : run1.sl.H9_19 d i arg4 arg5 arg6 hc1 f4 f5 f6 = (pieces1 i arg4 arg5 arg6 f4 f5 f6 hc1).tail := rfl
theorem pieces2_run (hc2 : k1_cond2 i = 1#1) : run2.sl.H9_20 d i arg4 arg5 arg6 hc2 f4 f5 f6 = pieces2 i arg4 arg5 arg6 f4 f5 f6 hc2 := rfl

/-- The offset of group `(g, c)` at a point. -/
abbrev goff (g c : ℕ) : Fin 3 → ℕ := ![(i 0).val % 2, (i 1).val % 8 * 640 + 128 * g, (i 1).val / 8 * 512 + 128 * c]

theorem pieces1_all (hc1 : k1_cond1 i = 1#1) (P : View.Piece (Elt F) S2x5120x1536 .bf16 → Prop)
    (h : ∀ off inb g c hg hc, off = goff i g c → P (piece arg4 arg5 arg6 f4 f5 f6 off inb g c hg hc)) : ∀ p ∈ pieces1 i arg4 arg5 arg6 f4 f5 f6 hc1, P p := by
  unfold pieces1
  simp only [List.forall_mem_cons]
  exact ⟨h _ _ _ _ _ _ (off21_eq i), h _ _ _ _ _ _ (off20_eq i), h _ _ _ _ _ _ (off19_eq i), h _ _ _ _ _ _ (off18_eq i), h _ _ _ _ _ _ (off17_eq i), h _ _ _ _ _ _ (off16_eq i), h _ _ _ _ _ _ (off15_eq i), h _ _ _ _ _ _ (off14_eq i), h _ _ _ _ _ _ (off13_eq i), h _ _ _ _ _ _ (off12_eq i), h _ _ _ _ _ _ (off11_eq i), h _ _ _ _ _ _ (off10_eq i), h _ _ _ _ _ _ (off9_eq i), h _ _ _ _ _ _ (off8_eq i), h _ _ _ _ _ _ (off7_eq i), h _ _ _ _ _ _ (off6_eq i), h _ _ _ _ _ _ (off5_eq i), h _ _ _ _ _ _ (off4_eq i), h _ _ _ _ _ _ (off3_eq i), h _ _ _ _ _ _ (off2_eq i), fun p hp => absurd hp List.not_mem_nil⟩

theorem pieces1_ex (hc1 : k1_cond1 i = 1#1) (g c : ℕ) (hg : g < 5) (hc : c < 4) :
    ∃ off inb, off = goff i g c ∧ piece arg4 arg5 arg6 f4 f5 f6 off inb g c hg hc ∈ pieces1 i arg4 arg5 arg6 f4 f5 f6 hc1 := by
  match g, c with
  | 0, 0 => exact ⟨_, _, off2_eq i, List.getElem_mem (l := pieces1 i arg4 arg5 arg6 f4 f5 f6 hc1) (n := 19) (show 19 < 20 by omega)⟩
  | 1, 0 => exact ⟨_, _, off3_eq i, List.getElem_mem (l := pieces1 i arg4 arg5 arg6 f4 f5 f6 hc1) (n := 18) (show 18 < 20 by omega)⟩
  | 2, 0 => exact ⟨_, _, off4_eq i, List.getElem_mem (l := pieces1 i arg4 arg5 arg6 f4 f5 f6 hc1) (n := 17) (show 17 < 20 by omega)⟩
  | 3, 0 => exact ⟨_, _, off5_eq i, List.getElem_mem (l := pieces1 i arg4 arg5 arg6 f4 f5 f6 hc1) (n := 16) (show 16 < 20 by omega)⟩
  | 4, 0 => exact ⟨_, _, off6_eq i, List.getElem_mem (l := pieces1 i arg4 arg5 arg6 f4 f5 f6 hc1) (n := 15) (show 15 < 20 by omega)⟩
  | 0, 1 => exact ⟨_, _, off7_eq i, List.getElem_mem (l := pieces1 i arg4 arg5 arg6 f4 f5 f6 hc1) (n := 14) (show 14 < 20 by omega)⟩
  | 1, 1 => exact ⟨_, _, off8_eq i, List.getElem_mem (l := pieces1 i arg4 arg5 arg6 f4 f5 f6 hc1) (n := 13) (show 13 < 20 by omega)⟩
  | 2, 1 => exact ⟨_, _, off9_eq i, List.getElem_mem (l := pieces1 i arg4 arg5 arg6 f4 f5 f6 hc1) (n := 12) (show 12 < 20 by omega)⟩
  | 3, 1 => exact ⟨_, _, off10_eq i, List.getElem_mem (l := pieces1 i arg4 arg5 arg6 f4 f5 f6 hc1) (n := 11) (show 11 < 20 by omega)⟩
  | 4, 1 => exact ⟨_, _, off11_eq i, List.getElem_mem (l := pieces1 i arg4 arg5 arg6 f4 f5 f6 hc1) (n := 10) (show 10 < 20 by omega)⟩
  | 0, 2 => exact ⟨_, _, off12_eq i, List.getElem_mem (l := pieces1 i arg4 arg5 arg6 f4 f5 f6 hc1) (n := 9) (show 9 < 20 by omega)⟩
  | 1, 2 => exact ⟨_, _, off13_eq i, List.getElem_mem (l := pieces1 i arg4 arg5 arg6 f4 f5 f6 hc1) (n := 8) (show 8 < 20 by omega)⟩
  | 2, 2 => exact ⟨_, _, off14_eq i, List.getElem_mem (l := pieces1 i arg4 arg5 arg6 f4 f5 f6 hc1) (n := 7) (show 7 < 20 by omega)⟩
  | 3, 2 => exact ⟨_, _, off15_eq i, List.getElem_mem (l := pieces1 i arg4 arg5 arg6 f4 f5 f6 hc1) (n := 6) (show 6 < 20 by omega)⟩
  | 4, 2 => exact ⟨_, _, off16_eq i, List.getElem_mem (l := pieces1 i arg4 arg5 arg6 f4 f5 f6 hc1) (n := 5) (show 5 < 20 by omega)⟩
  | 0, 3 => exact ⟨_, _, off17_eq i, List.getElem_mem (l := pieces1 i arg4 arg5 arg6 f4 f5 f6 hc1) (n := 4) (show 4 < 20 by omega)⟩
  | 1, 3 => exact ⟨_, _, off18_eq i, List.getElem_mem (l := pieces1 i arg4 arg5 arg6 f4 f5 f6 hc1) (n := 3) (show 3 < 20 by omega)⟩
  | 2, 3 => exact ⟨_, _, off19_eq i, List.getElem_mem (l := pieces1 i arg4 arg5 arg6 f4 f5 f6 hc1) (n := 2) (show 2 < 20 by omega)⟩
  | 3, 3 => exact ⟨_, _, off20_eq i, List.getElem_mem (l := pieces1 i arg4 arg5 arg6 f4 f5 f6 hc1) (n := 1) (show 1 < 20 by omega)⟩
  | 4, 3 => exact ⟨_, _, off21_eq i, List.getElem_mem (l := pieces1 i arg4 arg5 arg6 f4 f5 f6 hc1) (n := 0) (show 0 < 20 by omega)⟩
  | g + 5, _ => omega
  | _, c + 4 => omega

theorem pieces2_all (hc2 : k1_cond2 i = 1#1) (P : View.Piece (Elt F) S2x5120x1536 .bf16 → Prop)
    (h : ∀ off inb g c hg hc, off = goff i g c → P (piece arg4 arg5 arg6 f4 f5 f6 off inb g c hg hc)) : ∀ p ∈ pieces2 i arg4 arg5 arg6 f4 f5 f6 hc2, P p := by
  unfold pieces2
  simp only [List.forall_mem_cons]
  exact ⟨h _ _ _ _ _ _ (off42_eq i), h _ _ _ _ _ _ (off41_eq i), h _ _ _ _ _ _ (off40_eq i), h _ _ _ _ _ _ (off39_eq i), h _ _ _ _ _ _ (off38_eq i), h _ _ _ _ _ _ (off37_eq i), h _ _ _ _ _ _ (off36_eq i), h _ _ _ _ _ _ (off35_eq i), h _ _ _ _ _ _ (off34_eq i), h _ _ _ _ _ _ (off33_eq i), h _ _ _ _ _ _ (off32_eq i), h _ _ _ _ _ _ (off31_eq i), h _ _ _ _ _ _ (off30_eq i), h _ _ _ _ _ _ (off29_eq i), h _ _ _ _ _ _ (off28_eq i), h _ _ _ _ _ _ (off27_eq i), h _ _ _ _ _ _ (off26_eq i), h _ _ _ _ _ _ (off25_eq i), h _ _ _ _ _ _ (off24_eq i), h _ _ _ _ _ _ (off23_eq i), fun p hp => absurd hp List.not_mem_nil⟩

theorem pieces2_ex (hc2 : k1_cond2 i = 1#1) (g c : ℕ) (hg : g < 5) (hc : c < 4) :
    ∃ off inb, off = goff i g c ∧ piece arg4 arg5 arg6 f4 f5 f6 off inb g c hg hc ∈ pieces2 i arg4 arg5 arg6 f4 f5 f6 hc2 := by
  match g, c with
  | 0, 0 => exact ⟨_, _, off23_eq i, List.getElem_mem (l := pieces2 i arg4 arg5 arg6 f4 f5 f6 hc2) (n := 19) (show 19 < 20 by omega)⟩
  | 1, 0 => exact ⟨_, _, off24_eq i, List.getElem_mem (l := pieces2 i arg4 arg5 arg6 f4 f5 f6 hc2) (n := 18) (show 18 < 20 by omega)⟩
  | 2, 0 => exact ⟨_, _, off25_eq i, List.getElem_mem (l := pieces2 i arg4 arg5 arg6 f4 f5 f6 hc2) (n := 17) (show 17 < 20 by omega)⟩
  | 3, 0 => exact ⟨_, _, off26_eq i, List.getElem_mem (l := pieces2 i arg4 arg5 arg6 f4 f5 f6 hc2) (n := 16) (show 16 < 20 by omega)⟩
  | 4, 0 => exact ⟨_, _, off27_eq i, List.getElem_mem (l := pieces2 i arg4 arg5 arg6 f4 f5 f6 hc2) (n := 15) (show 15 < 20 by omega)⟩
  | 0, 1 => exact ⟨_, _, off28_eq i, List.getElem_mem (l := pieces2 i arg4 arg5 arg6 f4 f5 f6 hc2) (n := 14) (show 14 < 20 by omega)⟩
  | 1, 1 => exact ⟨_, _, off29_eq i, List.getElem_mem (l := pieces2 i arg4 arg5 arg6 f4 f5 f6 hc2) (n := 13) (show 13 < 20 by omega)⟩
  | 2, 1 => exact ⟨_, _, off30_eq i, List.getElem_mem (l := pieces2 i arg4 arg5 arg6 f4 f5 f6 hc2) (n := 12) (show 12 < 20 by omega)⟩
  | 3, 1 => exact ⟨_, _, off31_eq i, List.getElem_mem (l := pieces2 i arg4 arg5 arg6 f4 f5 f6 hc2) (n := 11) (show 11 < 20 by omega)⟩
  | 4, 1 => exact ⟨_, _, off32_eq i, List.getElem_mem (l := pieces2 i arg4 arg5 arg6 f4 f5 f6 hc2) (n := 10) (show 10 < 20 by omega)⟩
  | 0, 2 => exact ⟨_, _, off33_eq i, List.getElem_mem (l := pieces2 i arg4 arg5 arg6 f4 f5 f6 hc2) (n := 9) (show 9 < 20 by omega)⟩
  | 1, 2 => exact ⟨_, _, off34_eq i, List.getElem_mem (l := pieces2 i arg4 arg5 arg6 f4 f5 f6 hc2) (n := 8) (show 8 < 20 by omega)⟩
  | 2, 2 => exact ⟨_, _, off35_eq i, List.getElem_mem (l := pieces2 i arg4 arg5 arg6 f4 f5 f6 hc2) (n := 7) (show 7 < 20 by omega)⟩
  | 3, 2 => exact ⟨_, _, off36_eq i, List.getElem_mem (l := pieces2 i arg4 arg5 arg6 f4 f5 f6 hc2) (n := 6) (show 6 < 20 by omega)⟩
  | 4, 2 => exact ⟨_, _, off37_eq i, List.getElem_mem (l := pieces2 i arg4 arg5 arg6 f4 f5 f6 hc2) (n := 5) (show 5 < 20 by omega)⟩
  | 0, 3 => exact ⟨_, _, off38_eq i, List.getElem_mem (l := pieces2 i arg4 arg5 arg6 f4 f5 f6 hc2) (n := 4) (show 4 < 20 by omega)⟩
  | 1, 3 => exact ⟨_, _, off39_eq i, List.getElem_mem (l := pieces2 i arg4 arg5 arg6 f4 f5 f6 hc2) (n := 3) (show 3 < 20 by omega)⟩
  | 2, 3 => exact ⟨_, _, off40_eq i, List.getElem_mem (l := pieces2 i arg4 arg5 arg6 f4 f5 f6 hc2) (n := 2) (show 2 < 20 by omega)⟩
  | 3, 3 => exact ⟨_, _, off41_eq i, List.getElem_mem (l := pieces2 i arg4 arg5 arg6 f4 f5 f6 hc2) (n := 1) (show 1 < 20 by omega)⟩
  | 4, 3 => exact ⟨_, _, off42_eq i, List.getElem_mem (l := pieces2 i arg4 arg5 arg6 f4 f5 f6 hc2) (n := 0) (show 0 < 20 by omega)⟩
  | g + 5, _ => omega
  | _, c + 4 => omega

/-- What the groups hold: every entry the decoded value of its byte, its scale and its word. -/
def blkG (q : S320x512.Idx → Elt F .i8) (sc : S1x5x512.Idx → Elt F .f32) (w : S4x320x128.Idx → Elt F .i32) (y : S2x5120x1536.Idx) : Elt F .bf16 :=
  elt (q (ix2 ⟨(y 1).val % 640 / 2, by omega⟩ ⟨(y 2).val % 512, by omega⟩))
    (sc (ix3 0 ⟨(y 1).val % 640 / 128, by omega⟩ ⟨(y 2).val % 512, by omega⟩))
    (w (ix3 ⟨(y 2).val % 512 / 128, by omega⟩ ⟨(y 1).val % 640 / 2, by omega⟩ ⟨(y 2).val % 128, by omega⟩)) ((y 1).val % 2)

theorem pay5_at (q : Vec F S64x128 .i8) (sc : Vec F S1x1x128 .f32) (w : Vec F S1x64x128 .i32) (x : S1x128x128.Idx) :
    k1_pay5 q sc w x = elt (q (ix2 ⟨(x 1).val / 2, Nat.div_lt_of_lt_mul (x 1).isLt⟩ (x 2 : Fin 128))) (sc (ix3 0 0 (x 2 : Fin 128)))
      (w (ix3 0 ⟨(x 1).val / 2, Nat.div_lt_of_lt_mul (x 1).isLt⟩ (x 2 : Fin 128))) ((x 1).val % 2) := by
  have hx : x = (ix3 (0 : Fin 1) (x 1 : Fin 128) (x 2 : Fin 128) : S1x128x128.Idx) := by
    funext a
    match a with
    | ⟨0, _⟩ => exact Subsingleton.elim (α := Fin 1) _ _
    | ⟨1, _⟩ => rfl
    | ⟨2, _⟩ => rfl
  exact (congrArg (k1_pay5 q sc w) hx).trans (pay5_apply q sc w (x 1) (x 2))

theorem piece_agree (off : Fin 3 → ℕ) (inb : ∀ a, off a + S1x128x128.size a ≤ S2x5120x1536.size a) (g c : ℕ) (hg : g < 5) (hc : c < 4)
    (hoff : off = goff i g c) (x : S1x128x128.Idx) :
    (piece arg4 arg5 arg6 f4 f5 f6 off inb g c hg hc).2 x
      = blkG (arg4.view.read (Elt F) f4) (arg5.view.read (Elt F) f5) (arg6.view.read (Elt F) f6) ((piece arg4 arg5 arg6 f4 f5 f6 off inb g c hg hc).1.emb x) := by
  subst hoff
  have h1 : ((piece arg4 arg5 arg6 f4 f5 f6 (goff i g c) inb g c hg hc).1.emb x 1).val = (i 1).val % 8 * 640 + 128 * g + 1 * (x 1).val := rfl
  have h2 : ((piece arg4 arg5 arg6 f4 f5 f6 (goff i g c) inb g c hg hc).1.emb x 2).val = (i 1).val / 8 * 512 + 128 * c + 1 * (x 2).val := rfl
  have hr : (x 1).val < 128 := (x 1).isLt
  have hcc : (x 2).val < 128 := (x 2).isLt
  unfold blkG
  refine (pay5_at _ _ _ x).trans ?_
  congr 1
  · refine congrArg (arg4.view.read (Elt F) f4) (funext fun a => Fin.ext ?_)
    match a with
    | ⟨0, _⟩ => show 64 * g + 1 * ((x 1).val / 2) = _ % 640 / 2; rw [h1]; omega
    | ⟨1, _⟩ => show 128 * c + 1 * (x 2).val = _ % 512; rw [h2]; omega
  · refine congrArg (arg5.view.read (Elt F) f5) (funext fun a => Fin.ext ?_)
    match a with
    | ⟨0, _⟩ => rfl
    | ⟨1, _⟩ => show g + 1 * 0 = _ % 640 / 128; rw [h1]; omega
    | ⟨2, _⟩ => show 128 * c + 1 * (x 2).val = _ % 512; rw [h2]; omega
  · refine congrArg (arg6.view.read (Elt F) f6) (funext fun a => Fin.ext ?_)
    match a with
    | ⟨0, _⟩ => show c + 1 * 0 = _ % 512 / 128; rw [h2]; omega
    | ⟨1, _⟩ => show 64 * g + 1 * ((x 1).val / 2) = _ % 640 / 2; rw [h1]; omega
    | ⟨2, _⟩ => show 0 + 1 * (x 2).val = _ % 128; rw [h2]; omega
  · rw [h1]; omega

/-- The part of the scratch buffer a point writes. -/
def inBlk (y : S2x5120x1536.Idx) : Prop := (y 0).val = (i 0).val % 2 ∧ (y 1).val / 640 = (i 1).val % 8 ∧ (y 2).val / 512 = (i 1).val / 8

instance (y : S2x5120x1536.Idx) : Decidable (inBlk i y) := by unfold inBlk; infer_instance

theorem piece_mem (off : Fin 3 → ℕ) (inb : ∀ a, off a + S1x128x128.size a ≤ S2x5120x1536.size a) (g c : ℕ) (hg : g < 5) (hc : c < 4)
    (hoff : off = goff i g c) (y : S2x5120x1536.Idx) :
    y ∈ (piece arg4 arg5 arg6 f4 f5 f6 off inb g c hg hc).1.set ↔ inBlk i y ∧ (y 1).val % 640 / 128 = g ∧ (y 2).val % 512 / 128 = c := by
  subst hoff
  have hs := Rect.mem_set_unit (s := S2x5120x1536) (off := goff i g c) (size := S1x128x128.size) (inb := inb) (i := y)
  refine Iff.trans hs (b := ∀ a, goff i g c a ≤ (y a).val ∧ (y a).val < goff i g c a + S1x128x128.size a) (Iff.intro (fun h => ?_) fun h a => ?_)
  · have h0 : (i 0).val % 2 ≤ (y 0).val ∧ (y 0).val < (i 0).val % 2 + 1 := h 0
    have h1 : (i 1).val % 8 * 640 + 128 * g ≤ (y 1).val ∧ (y 1).val < (i 1).val % 8 * 640 + 128 * g + 128 := h 1
    have h2 : (i 1).val / 8 * 512 + 128 * c ≤ (y 2).val ∧ (y 2).val < (i 1).val / 8 * 512 + 128 * c + 128 := h 2
    unfold inBlk
    omega
  · obtain ⟨⟨h0, h1, h2⟩, h3, h4⟩ := h
    match a with
    | ⟨0, _⟩ => show (i 0).val % 2 ≤ (y 0).val ∧ (y 0).val < (i 0).val % 2 + 1; omega
    | ⟨1, _⟩ => show (i 1).val % 8 * 640 + 128 * g ≤ (y 1).val ∧ (y 1).val < (i 1).val % 8 * 640 + 128 * g + 128; omega
    | ⟨2, _⟩ => show (i 1).val / 8 * 512 + 128 * c ≤ (y 2).val ∧ (y 2).val < (i 1).val / 8 * 512 + 128 * c + 128; omega

theorem read_pieces1 (hc1 : k1_cond1 i = 1#1) (arg9 : Memref sig .tc .vmem S2x5120x1536 .bf16) (f9 : Bf (F := F) d arg9) (y : S2x5120x1536.Idx) :
    arg9.view.read (Elt F) (arg9.view.writes (Elt F) f9 (pieces1 i arg4 arg5 arg6 f4 f5 f6 hc1)) y
      = if inBlk i y then blkG (arg4.view.read (Elt F) f4) (arg5.view.read (Elt F) f5) (arg6.view.read (Elt F) f6) y else arg9.view.read (Elt F) f9 y := by
  split
  next h =>
    refine View.read_writes_apply_of_pieces arg9.view f9 _ _ (pieces1_all i arg4 arg5 arg6 f4 f5 f6 hc1 _ fun off inb g c hg hc ho x => piece_agree i arg4 arg5 arg6 f4 f5 f6 off inb g c hg hc ho x) y ?_
    have hy1 := (y 1).isLt
    obtain ⟨off, inb, ho, hm⟩ := pieces1_ex i arg4 arg5 arg6 f4 f5 f6 hc1 ((y 1).val % 640 / 128) ((y 2).val % 512 / 128) (by omega) (by omega)
    exact ⟨_, hm, (piece_mem i arg4 arg5 arg6 f4 f5 f6 off inb _ _ _ _ ho y).2 ⟨h, rfl, rfl⟩⟩
  next h =>
    exact View.read_writes_apply_of_forall_not_mem arg9.view f9 y _ (pieces1_all i arg4 arg5 arg6 f4 f5 f6 hc1 (fun p => y ∉ p.1.set) fun off inb g c hg hc ho hm =>
      h ((piece_mem i arg4 arg5 arg6 f4 f5 f6 off inb g c hg hc ho y).1 hm).1)

theorem read_pieces2 (hc2 : k1_cond2 i = 1#1) (arg9 : Memref sig .tc .vmem S2x5120x1536 .bf16) (f9 : Bf (F := F) d arg9) (y : S2x5120x1536.Idx) :
    arg9.view.read (Elt F) (arg9.view.writes (Elt F) f9 (pieces2 i arg4 arg5 arg6 f4 f5 f6 hc2)) y
      = if inBlk i y then blkG (arg4.view.read (Elt F) f4) (arg5.view.read (Elt F) f5) (arg6.view.read (Elt F) f6) y else arg9.view.read (Elt F) f9 y := by
  split
  next h =>
    refine View.read_writes_apply_of_pieces arg9.view f9 _ _ (pieces2_all i arg4 arg5 arg6 f4 f5 f6 hc2 _ fun off inb g c hg hc ho x => piece_agree i arg4 arg5 arg6 f4 f5 f6 off inb g c hg hc ho x) y ?_
    have hy1 := (y 1).isLt
    obtain ⟨off, inb, ho, hm⟩ := pieces2_ex i arg4 arg5 arg6 f4 f5 f6 hc2 ((y 1).val % 640 / 128) ((y 2).val % 512 / 128) (by omega) (by omega)
    exact ⟨_, hm, (piece_mem i arg4 arg5 arg6 f4 f5 f6 off inb _ _ _ _ ho y).2 ⟨h, rfl, rfl⟩⟩
  next h =>
    exact View.read_writes_apply_of_forall_not_mem arg9.view f9 y _ (pieces2_all i arg4 arg5 arg6 f4 f5 f6 hc2 (fun p => y ∉ p.1.set) fun off inb g c hg hc ho hm =>
      h ((piece_mem i arg4 arg5 arg6 f4 f5 f6 off inb g c hg hc ho y).1 hm).1)

end

end Cert.Proof.KernelIdeal

end
-- ==== Proof.KI.Spec1.lean ====
module

public import proofs.«01_k».proof.Proof.KI.Spec0
public import proofs.«01_k».proof.Proof.KI.Pieces

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem run1_ex (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    ∃ W : Bf (F := F) c arg9, W = arg9.view.writes (Elt F) f9 (pieces1 (d := c) i arg4 arg5 arg6 f4 f5 f6 hc1) ∧ ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 f8 ∗ pt c arg9 W) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q  :=
  ⟨(run1 c i arg2 harg2 arg3 harg3 arg4 harg4 arg5 harg5 arg6 harg6 arg7 harg7 arg8 harg8 arg9 harg9 hc1 hc2 f2 f3 f4 f5 f6 f7 f8 f9).1, by
    unfold run1
    dsimp only
    refine congrArg (arg9.view.writes (Elt F) f9) ?_
    rw [pieces1_run]
    exact congrArg (fun p => p :: (pieces1 (d := c) i arg4 arg5 arg6 f4 f5 f6 hc1).tail) rfl, (run1 c i arg2 harg2 arg3 harg3 arg4 harg4 arg5 harg5 arg6 harg6 arg7 harg7 arg8 harg8 arg9 harg9 hc1 hc2 f2 f3 f4 f5 f6 f7 f8 f9).2⟩

/-- A point of the first column step, over its blocks: the output block stays as found. -/
theorem bodyspec1 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : k1_cond1 i = 1#1) (hc2 : ¬ k1_cond2 i = 1#1)
    (X : S512x5120.Idx → Elt F .bf16) (T : S512x128.Idx → Elt F .bf16) (q : S320x512.Idx → Elt F .i8) (sc : S1x5x512.Idx → Elt F .f32) (w : S4x320x128.Idx → Elt F .i32) (B : S128x1536.Idx → Elt F .bf16) (Z8 : S512x1536.Idx → Elt F .bf16) (f9 : Bf (F := F) c arg9) (E : Set ℕ) (Q : PUnit → sProp 𝕄) :
    iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare Z8 ∗ pt c arg9 f9
        ∗ (iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare Z8
            ∗ ∃ f' : Bf (F := F) c arg9, ⌜∀ y, arg9.view.read (Elt F) f' y = if inBlk i y then blkG q sc w y else arg9.view.read (Elt F) f9 y⌝ ∗ pt c arg9 f') -∗ Q ⟨⟩))
      ⊢ wp frame (wpE (defs₀ (F := F)) Variants.none c none) E (cc1_main_mm i arg2 harg2 arg3 harg3 arg4 harg4 arg5 harg5 arg6 harg6 arg7 harg7 arg8 harg8 arg9 harg9) Q := by
  simp only [owns_pt c harg2, owns_pt c harg3, owns_pt c harg4, owns_pt c harg5, owns_pt c harg6, owns_pt c harg7, owns_pt c harg8]
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, H9, Hk⟩
  obtain ⟨W, hW, hrun⟩ := run1_ex c i arg2 harg2 arg3 harg3 arg4 harg4 arg5 harg5 arg6 harg6 arg7 harg7 arg8 harg8 arg9 harg9 hc1 hc2 f2 f3 f4 f5 f6 f7 f8 f9
  iapply (hrun E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]; · iexists _; isplitr; swap; (· iexact H8); ipureintro; exact h8
  iexists _; isplitr; swap; (· iexact H9)
  ipureintro
  subst h4 h5 h6 hW
  intro y
  exact read_pieces1 (d := c) i arg4 arg5 arg6 f4 f5 f6 hc1 arg9 f9 y

/-- The decoded column panel a product point reads: the slot the point does not write. -/
abbrev slotOther {c : Dev nD} (i : grid1.Coords) (arg9 : Memref sig .tc .vmem S2x5120x1536 .bf16) (f9 : Bf (F := F) c arg9) : S1x5120x1536.Idx → Elt F .bf16 :=
  fun z => arg9.view.read (Elt F) f9 (ix3 ⟨((i 0).val + 1) % 2, Nat.mod_lt _ (by decide)⟩ (z 1) (z 2))

theorem slot_read {c : Dev nD} (i : grid1.Coords) (arg4 : Memref sig .tc .vmem S320x512 .i8) (arg5 : Memref sig .tc .vmem S1x5x512 .f32) (arg6 : Memref sig .tc .vmem S4x320x128 .i32)
    (f4 : Bf (F := F) c arg4) (f5 : Bf (F := F) c arg5) (f6 : Bf (F := F) c arg6)
    (arg9 : Memref sig .tc .vmem S2x5120x1536 .bf16) (f9 : Bf (F := F) c arg9) (hc2 : k1_cond2 i = 1#1)
    (inb : ∀ a, k1_off43 i a + S1x5120x1536.size a ≤ S2x5120x1536.size a)
    (L : List (View.Piece (Elt F) S2x5120x1536 .bf16)) (hL : L = pieces2 i arg4 arg5 arg6 f4 f5 f6 hc2) :
    View.readAt (Elt F) arg9.view (Rect.unit (s := S2x5120x1536) (k1_off43 i) S1x5120x1536.size inb).toLoadRect (arg9.view.writes (Elt F) f9 L)
      = slotOther i arg9 f9 := by
  subst hL
  funext z
  have hz : (Rect.unit (s := S2x5120x1536) (k1_off43 i) S1x5120x1536.size inb).emb z = ix3 ⟨((i 0).val + 1) % 2, Nat.mod_lt _ (by decide)⟩ (z 1) (z 2) := by
    have h0 : (z 0).val = 0 := by have := (z 0).isLt; show (z 0).val = 0; have h : (z 0).val < 1 := this; omega
    funext a
    apply Fin.ext
    show k1_off43 i a + 1 * (z a).val = _
    rw [congrFun (off43_eq i) a, Nat.one_mul]
    fin_cases a
    · show ((i 0).val + 1) % 2 + (z 0).val = ((i 0).val + 1) % 2; omega
    · show 0 + (z 1).val = (z 1).val; omega
    · show 0 + (z 2).val = (z 2).val; omega
  show arg9.view.read (Elt F) _ ((Rect.unit (s := S2x5120x1536) (k1_off43 i) S1x5120x1536.size inb).emb z) = _
  rw [hz]
  refine (read_pieces2 i arg4 arg5 arg6 f4 f5 f6 hc2 arg9 f9 _).trans (if_neg ?_)
  intro h
  have h1 : ((i 0).val + 1) % 2 = (i 0).val % 2 := h.1
  omega

theorem run2_ex (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    ∃ (W8 : Bf (F := F) c arg8) (W9 : Bf (F := F) c arg9), arg8.view.read (Elt F) W8 = k1_pay2 (k1_pay82 (arg2.view.read (Elt F) f2) (slotOther i arg9 f9)) (k1_pay83 (arg3.view.read (Elt F) f3) (arg7.view.read (Elt F) f7))
      ∧ W9 = arg9.view.writes (Elt F) f9 (pieces2 (d := c) i arg4 arg5 arg6 f4 f5 f6 hc2) ∧ ∀ (E : Set ℕ) (Q : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9
          ∗ (iprop(pt c arg2 f2 ∗ pt c arg3 f3 ∗ pt c arg4 f4 ∗ pt c arg5 f5 ∗ pt c arg6 f6 ∗ pt c arg7 f7 ∗ pt c arg8 W8 ∗ pt c arg9 W9) -∗ Q ⟨⟩))
          ⊢ wp frame (wpE (defs₀ (F := F)) Variants.none c none) E (cc1_main_mm i arg2 harg2 arg3 harg3 arg4 harg4 arg5 harg5 arg6 harg6 arg7 harg7 arg8 harg8 arg9 harg9) Q  := by
  refine ⟨(run2 c i arg2 harg2 arg3 harg3 arg4 harg4 arg5 harg5 arg6 harg6 arg7 harg7 arg8 harg8 arg9 harg9 hc1 hc2 f2 f3 f4 f5 f6 f7 f8 f9).1, (run2 c i arg2 harg2 arg3 harg3 arg4 harg4 arg5 harg5 arg6 harg6 arg7 harg7 arg8 harg8 arg9 harg9 hc1 hc2 f2 f3 f4 f5 f6 f7 f8 f9).2.1, ?_, ?_, (run2 c i arg2 harg2 arg3 harg3 arg4 harg4 arg5 harg5 arg6 harg6 arg7 harg7 arg8 harg8 arg9 harg9 hc1 hc2 f2 f3 f4 f5 f6 f7 f8 f9).2.2⟩
  · unfold run2
    dsimp only
    rw [run2.sl.H8_1]
    refine (read_store_whole arg8.view inb_S512x1536_S512x1536_0_0 (by decide) _ _).trans ?_
    refine congrArg₂ k1_pay2 (congrArg₂ k1_pay82 (readAt_whole arg2.view _ (by decide) f2) ?_) (congrArg₂ k1_pay83 (readAt_whole arg3.view _ (by decide) f3) (readAt_whole arg7.view _ (by decide) f7))
    exact slot_read i arg4 arg5 arg6 f4 f5 f6 arg9 f9 hc2 _ (run2.sl.H9_20 c i arg4 arg5 arg6 hc2 f4 f5 f6) (pieces2_run ..)
  · unfold run2
    dsimp only
    exact congrArg (arg9.view.writes (Elt F) f9) (pieces2_run ..)

/-- A point of the later column steps, over its blocks. -/
theorem bodyspec2 (c : Dev nD) (i : grid1.Coords) (arg2 : Memref sig .tc .vmem S512x5120 .bf16) (harg2 : arg2.IsWhole) (arg3 : Memref sig .tc .vmem S512x128 .bf16) (harg3 : arg3.IsWhole) (arg4 : Memref sig .tc .vmem S320x512 .i8) (harg4 : arg4.IsWhole) (arg5 : Memref sig .tc .vmem S1x5x512 .f32) (harg5 : arg5.IsWhole) (arg6 : Memref sig .tc .vmem S4x320x128 .i32) (harg6 : arg6.IsWhole) (arg7 : Memref sig .tc .vmem S128x1536 .bf16) (harg7 : arg7.IsWhole) (arg8 : Memref sig .tc .vmem S512x1536 .bf16) (harg8 : arg8.IsWhole) (arg9 : Memref sig .tc .vmem S2x5120x1536 .bf16) (harg9 : arg9.IsWhole)
    (hc1 : ¬ k1_cond1 i = 1#1) (hc2 : k1_cond2 i = 1#1)
    (X : S512x5120.Idx → Elt F .bf16) (T : S512x128.Idx → Elt F .bf16) (q : S320x512.Idx → Elt F .i8) (sc : S1x5x512.Idx → Elt F .f32) (w : S4x320x128.Idx → Elt F .i32) (B : S128x1536.Idx → Elt F .bf16) (f9 : Bf (F := F) c arg9) (E : Set ℕ) (Q : PUnit → sProp 𝕄) :
    iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ (∃ Z8, owns (c : Thread nD τ) arg8 fullShare Z8) ∗ pt c arg9 f9
        ∗ (iprop(owns (c : Thread nD τ) arg2 fullShare X ∗ owns (c : Thread nD τ) arg3 fullShare T ∗ owns (c : Thread nD τ) arg4 fullShare q ∗ owns (c : Thread nD τ) arg5 fullShare sc ∗ owns (c : Thread nD τ) arg6 fullShare w ∗ owns (c : Thread nD τ) arg7 fullShare B ∗ owns (c : Thread nD τ) arg8 fullShare (k1_pay2 (k1_pay82 X (slotOther i arg9 f9)) (k1_pay83 T B))
            ∗ ∃ f' : Bf (F := F) c arg9, ⌜∀ y, arg9.view.read (Elt F) f' y = if inBlk i y then blkG q sc w y else arg9.view.read (Elt F) f9 y⌝ ∗ pt c arg9 f') -∗ Q ⟨⟩))
      ⊢ wp frame (wpE (defs₀ (F := F)) Variants.none c none) E (cc1_main_mm i arg2 harg2 arg3 harg3 arg4 harg4 arg5 harg5 arg6 harg6 arg7 harg7 arg8 harg8 arg9 harg9) Q := by
  simp only [owns_pt c harg2, owns_pt c harg3, owns_pt c harg4, owns_pt c harg5, owns_pt c harg6, owns_pt c harg7, owns_pt c harg8]
  iintro ⟨⟨%f2, %h2, H2⟩, ⟨%f3, %h3, H3⟩, ⟨%f4, %h4, H4⟩, ⟨%f5, %h5, H5⟩, ⟨%f6, %h6, H6⟩, ⟨%f7, %h7, H7⟩, ⟨%Z8, %f8, -, H8⟩, H9, Hk⟩
  obtain ⟨W8, W, hW8, hW, hrun⟩ := run2_ex c i arg2 harg2 arg3 harg3 arg4 harg4 arg5 harg5 arg6 harg6 arg7 harg7 arg8 harg8 arg9 harg9 hc1 hc2 f2 f3 f4 f5 f6 f7 f8 f9
  iapply (hrun E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]
  · iexists _; isplitr; swap; (· iexact H8)
    ipureintro
    subst h2 h3 h7
    exact hW8
  iexists _; isplitr; swap; (· iexact H9)
  ipureintro
  subst h4 h5 h6 hW
  intro y
  exact read_pieces2 (d := c) i arg4 arg5 arg6 f4 f5 f6 hc2 arg9 f9 y

end Cert.Proof.KernelIdeal

end
-- ==== Proof.KI.Region0.lean ====
/-
  The first call's proof data and its segment record: entered from any valuation of the unscoped buffers, left with
  its result array written.
-/
module

public import proofs.«01_k».proof.Proof.KI.Spec0
public import proofs.«01_k».proof.Proof.Gen.KernelIdeal.Regions
public import Idealize.ShloMosaic.Lib.Pipeline.RegionsLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- Window `w`'s block at point `t`, read off the array. -/
abbrev blk0 (c : Dev nD) (w : Fin 3) (t : Fin cfg0.N) : ((cfg0.win w).xblock (cfg0.grid.coords t)).Idx → Elt F (cfg0.win w).elt :=
  ((cfg0.win w).blk t).view.read (Elt F) (V c (Pipeline.arrRef spec0 w))

/-- The first call's proof data: the inputs stay, the result block is the product. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 V c).before 0 t d = blk0 V c 0 t :=
  Dat.before_in_eq_fetched (dat := dat0 V c) 0 rfl (fun _ => rfl) (fun _ _ _ => rfl) (fun _ => rfl) t d
theorem before0_1 (c : Dev nD) (t : Fin cfg0.N) (d) : (dat0 V c).before 1 t d = blk0 V c 1 t :=
  Dat.before_in_eq_fetched (dat := dat0 V c) 1 rfl (fun _ => rfl) (fun _ _ _ => rfl) (fun _ => rfl) t d

theorem body_obligation0 (c : Dev nD) : BodyObligation (dat0 V c) (defs₀ (F := F)) Variants.none () Set.univ := fun t => by
  rw [bigSep_W0, bigSep_W0]
  show _ ⊢ wp frame (wpE (defs₀ (F := F)) Variants.none c none) Set.univ (bodyAt0 t) _
  rw [show (dat0 V c).Φ t.succ = (dat0 V c).Φ t.castSucc from rfl, show (dat0 V c).owesAt () t.succ = (dat0 V c).owesAt () t.castSucc from rfl]
  iintro ⟨HΦ, Howes, ⟨%d0, H0⟩, ⟨%d1, H1⟩, H2⟩
  rw [before0_0, before0_1]
  iapply (bodyspec0 c (grid0.coords t) _ _ _ _ _ _ (blk0 V c 0 t) (blk0 V c 1 t) Set.univ _)
  isplitl [H0]; · iexact H0
  isplitl [H1]; · iexact H1
  isplitl [H2]; · icases H2 with ⟨%d2, H2⟩; iexists _; iexact H2
  iintro ⟨H0, H1, H2⟩
  isplitl [HΦ]; · iexact HΦ
  isplitl [Howes]; · iexact Howes
  isplitl [H0]; · iexact H0
  isplitl [H1]; · iexact H1
  iexact H2

/-- No core owes another anything: no level is assigned. -/
abbrev L : GSem nD τ sig → Finset Unit := fun _ => ∅
abbrev lv : GSem nD τ sig → Unit → ℕ := fun _ _ => 0

/-- What rides along beside the unscoped buffers: the core owes nothing. -/
abbrev Rst (c : Dev nD) : sProp 𝕄 := iprop(∃ W, owes (c : Thread nD τ) (0 : CellTallies nD τ sig Unit) W)

set_option backward.isDefEq.respectTransparency.types false in
/-- The first call as a segment, for any family of proof data with `dat0 V` at place 0. -/
def reg0 (pdats : (p : Fin 2) → (c : Dev nD) → Dat τ (Elt F) Unit ℕ UU ℕ (cfgs p) c) (hd : pdats 0 = dat0 V)
    (Vp : (c : Dev nD) → Valuation τ sig (Elt F)) (hVp_out : ∀ c, Vp c main_v1 = (dat0 V c).arrAt 2 cfg0.N)
    (hVp_ne : ∀ c (b : Ref sig .tc), b ≠ main_v1 → Vp c b = V c b) :
    Pipeline.RegionSeg (pcfgs (F := F)) adm pdats () defs₀ Variants.none L lv 0 where
  win := launch0.win.to₀
  block_pos := launch0.block_pos
  stage_whole := launch0.stage_whole
  K := PEmpty
  osem k := k.elim
  ho := Pipeline.OwnSemFacts.none _
  hbody c := by rw [hd]; exact (body_obligation0 V c).loose
  hwaits := Pipeline.hwaits_of_owed_zero _ _ _ _ L lv 0 fun _ _ => by rw [hd]; rfl
  pre c := iprop(StableHlo.held (c : Thread nD τ) (Pipeline.ucRefs τ sig) (V c) ∗ Rst c)
  post c := iprop(StableHlo.held (c : Thread nD τ) (Pipeline.ucRefs τ sig) (Vp c) ∗ Rst c)
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := Pipeline.arrays_of_unscopedBufs (p := 0) (pcfgs (F := F)) adm pdats launch0.win launch0.arr_whole c
      ((pdats 0 c).share_full fun _ => by rw [hd]; rfl) (fun b => V c b) fun _ => by rw [hd]; rfl
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats 0 c).Φ 0 = Pipeline.scopedRest (Ix := Unit) (Name := ℕ) (U := UU) (Lvl := ℕ) (Val := Elt F) spec0 c from by rw [hd]; rfl]
    iintro ⟨-, -, Hr⟩; iexact Hr
  hout c := by
    rw [Pipeline.ownSems0_none, show (pdats 0 c).Φ (Fin.last _) = Pipeline.scopedRest (Ix := Unit) (Name := ℕ) (U := UU) (Lvl := ℕ) (Val := Elt F) spec0 c from by rw [hd]; rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      pdats ((pdats 0 c).share_full fun _ => by rw [hd]; rfl) (fun b => V c b) (fun b => Vp c b) ((pdats 0 c).arrAt · cfg0.N)
      (fun w => by
        rw [hd]
        fin_cases w
        · exact ((dat0 V c).arrAt_in 0 rfl _).trans (hVp_ne c main_v0 (by decide)).symm
        · exact ((dat0 V c).arrAt_in 1 rfl _).trans (hVp_ne c main_arg4 (by decide)).symm
        · exact (hVp_out c).symm)
      (fun b hb => hVp_ne c b fun h => hb (h ▸ Finset.mem_image.mpr ⟨2, Finset.mem_univ _, rfl⟩))
    rw [← Pipeline.unscopedBufs_held (Ix := Unit) (Name := ℕ) (U := UU) (Lvl := ℕ) c (Vp c)]
    iintro ⟨Ha, HO, -, Hrest⟩
    imodintro
    isplitl [Ha Hrest]
    · iapply hjoin; isplitl [Ha] <;> iassumption
    rw [hd]
    unfold Pipeline.Dat.owesAt Pipeline.owesWithin
    icases HO with ⟨%W, -, HO⟩; iexists W; iexact HO

end Cert.Proof.KernelIdeal

end
-- ==== Proof.KI.Blocks1.lean ====
/-
  The second call's blocks read off its arrays.
-/
module

public import proofs.«01_k».proof.Proof.KI.Spec1
public import proofs.«01_k».proof.Proof.KI.Region0

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

/-- The two coordinates of the point numbered `t`. -/
theorem coords1_0 (t : Fin cfg1.N) : (grid1.coords t 0).val = t.val / 24 :=
  (by decide +kernel : ∀ t : Fin cfg1.N, (grid1.coords t 0).val = t.val / 24) t
theorem coords1_1 (t : Fin cfg1.N) : (grid1.coords t 1).val = t.val % 24 :=
  (by decide +kernel : ∀ t : Fin cfg1.N, (grid1.coords t 1).val = t.val % 24) t

theorem tr0_eq (i : grid1.Coords) : cc1_transform_0 i = ![if (i 0).val = 0 then 0 else (i 1).val, 0] :=
  forall_ci (P := fun i => cc1_transform_0 i = ![if (i 0).val = 0 then 0 else (i 1).val, 0]) (by decide +kernel) i
theorem tr1_eq (i : grid1.Coords) : cc1_transform_1 i = ![if (i 0).val = 0 then 0 else (i 1).val, 0] :=
  forall_ci (P := fun i => cc1_transform_1 i = ![if (i 0).val = 0 then 0 else (i 1).val, 0]) (by decide +kernel) i
theorem tr2_eq (i : grid1.Coords) : cc1_transform_2 i = ![(i 1).val % 8, min (i 0).val 17 * 3 + (i 1).val / 8] :=
  forall_ci (P := fun i => cc1_transform_2 i = ![(i 1).val % 8, min (i 0).val 17 * 3 + (i 1).val / 8]) (by decide +kernel) i
theorem tr3_eq (i : grid1.Coords) : cc1_transform_3 i = ![(i 1).val % 8, 0, min (i 0).val 17 * 3 + (i 1).val / 8] :=
  forall_ci (P := fun i => cc1_transform_3 i = ![(i 1).val % 8, 0, min (i 0).val 17 * 3 + (i 1).val / 8]) (by decide +kernel) i
theorem tr4_eq (i : grid1.Coords) : cc1_transform_4 i = ![min (i 0).val 17 * 3 + (i 1).val / 8, (i 1).val % 8, 0] :=
  forall_ci (P := fun i => cc1_transform_4 i = ![min (i 0).val 17 * 3 + (i 1).val / 8, (i 1).val % 8, 0]) (by decide +kernel) i
theorem tr5_eq (i : grid1.Coords) : cc1_transform_5 i = ![0, (i 0).val - 1] :=
  forall_ci (P := fun i => cc1_transform_5 i = ![0, (i 0).val - 1]) (by decide +kernel) i
theorem tr6_eq (i : grid1.Coords) : cc1_transform_6 i = ![if (i 0).val = 0 then 0 else (i 1).val, (i 0).val - 1] :=
  forall_ci (P := fun i => cc1_transform_6 i = ![if (i 0).val = 0 then 0 else (i 1).val, (i 0).val - 1]) (by decide +kernel) i

variable (V : (c : Dev nD) → Valuation τ sig (Elt F))

/-- Window `w`'s block at point `t`, read off the array. -/
abbrev blk1 (c : Dev nD) (w : Fin 7) (t : Fin cfg1.N) : ((cfg1.win w).xblock (cfg1.grid.coords t)).Idx → Elt F (cfg1.win w).elt :=
  ((cfg1.win w).blk t).view.read (Elt F) (V c (Pipeline.arrRef spec1 w))

/-- The arrays the second call reads. -/
abbrev aX (c : Dev nD) : S12288x5120.Idx → Elt F .bf16 := V c main_v0
abbrev aT (c : Dev nD) : S12288x128.Idx → Elt F .bf16 := V c main_v1
abbrev aQ (c : Dev nD) : S2560x27648.Idx → Elt F .i8 := V c main_arg1
abbrev aS (c : Dev nD) : S8x5x27648.Idx → Elt F .f32 := V c main_v2
abbrev aW (c : Dev nD) : S216x2560x128.Idx → Elt F .i32 := V c main_arg3
abbrev aB (c : Dev nD) : S128x27648.Idx → Elt F .bf16 := V c main_arg5

theorem blk1_0 (c : Dev nD) (t : Fin cfg1.N) (a : Fin 512) (k : Fin 5120) (h : 24 ≤ t.val) :
    blk1 V c 0 t (ix2 a k : S512x5120.Idx) = aX V c (ix2 ⟨t.val % 24 * 512 + a.val, by omega⟩ k) := by
  refine congrArg (aX V c) (funext fun x => Fin.ext ?_)
  refine (Pipeline.Window.rect_emb_val (cfg1.win 0) t _ x).trans ?_
  show cc1_transform_0 (grid1.coords t) x * _ + _ = _
  rw [congrFun (tr0_eq (grid1.coords t)) x, coords1_0, coords1_1, if_neg (by omega)]
  match x with
  | ⟨0, _⟩ => rfl
  | ⟨1, _⟩ => show 0 * 5120 + k.val = k.val; omega

theorem blk1_1 (c : Dev nD) (t : Fin cfg1.N) (a : Fin 512) (k : Fin 128) (h : 24 ≤ t.val) :
    blk1 V c 1 t (ix2 a k : S512x128.Idx) = aT V c (ix2 ⟨t.val % 24 * 512 + a.val, by omega⟩ k) := by
  refine congrArg (aT V c) (funext fun x => Fin.ext ?_)
  refine (Pipeline.Window.rect_emb_val (cfg1.win 1) t _ x).trans ?_
  show cc1_transform_1 (grid1.coords t) x * _ + _ = _
  rw [congrFun (tr1_eq (grid1.coords t)) x, coords1_0, coords1_1, if_neg (by omega)]
  match x with
  | ⟨0, _⟩ => rfl
  | ⟨1, _⟩ => show 0 * 128 + k.val = k.val; omega

theorem blk1_2 (c : Dev nD) (t : Fin cfg1.N) (a : Fin 320) (b : Fin 512) :
    blk1 V c 2 t (ix2 a b : S320x512.Idx) = aQ V c (ix2 ⟨t.val % 24 % 8 * 320 + a.val, by omega⟩ ⟨(min (t.val / 24) 17 * 3 + t.val % 24 / 8) * 512 + b.val, by omega⟩) := by
  refine congrArg (aQ V c) (funext fun x => Fin.ext ?_)
  refine (Pipeline.Window.rect_emb_val (cfg1.win 2) t _ x).trans ?_
  show cc1_transform_2 (grid1.coords t) x * _ + _ = _
  rw [congrFun (tr2_eq (grid1.coords t)) x, coords1_0, coords1_1]
  match x with
  | ⟨0, _⟩ => rfl
  | ⟨1, _⟩ => rfl

theorem blk1_3 (c : Dev nD) (t : Fin cfg1.N) (a : Fin 5) (b : Fin 512) :
    blk1 V c 3 t (ix3 0 a b : S1x5x512.Idx) = aS V c (ix3 ⟨t.val % 24 % 8, by omega⟩ a ⟨(min (t.val / 24) 17 * 3 + t.val % 24 / 8) * 512 + b.val, by omega⟩) := by
  refine congrArg (aS V c) (funext fun x => Fin.ext ?_)
  refine (Pipeline.Window.rect_emb_val (cfg1.win 3) t _ x).trans ?_
  show cc1_transform_3 (grid1.coords t) x * _ + _ = _
  rw [congrFun (tr3_eq (grid1.coords t)) x, coords1_0, coords1_1]
  match x with
  | ⟨0, _⟩ => show t.val % 24 % 8 * 1 + 0 = t.val % 24 % 8; omega
  | ⟨1, _⟩ => show 0 * 5 + a.val = a.val; omega
  | ⟨2, _⟩ => rfl

theorem blk1_4 (c : Dev nD) (t : Fin cfg1.N) (g : Fin 4) (a : Fin 320) (b : Fin 128) :
    blk1 V c 4 t (ix3 g a b : S4x320x128.Idx) = aW V c (ix3 ⟨(min (t.val / 24) 17 * 3 + t.val % 24 / 8) * 4 + g.val, by omega⟩ ⟨t.val % 24 % 8 * 320 + a.val, by omega⟩ b) := by
  refine congrArg (aW V c) (funext fun x => Fin.ext ?_)
  refine (Pipeline.Window.rect_emb_val (cfg1.win 4) t _ x).trans ?_
  show cc1_transform_4 (grid1.coords t) x * _ + _ = _
  rw [congrFun (tr4_eq (grid1.coords t)) x, coords1_0, coords1_1]
  match x with
  | ⟨0, _⟩ => rfl
  | ⟨1, _⟩ => rfl
  | ⟨2, _⟩ => show 0 * 128 + b.val = b.val; omega

theorem blk1_5 (c : Dev nD) (t : Fin cfg1.N) (a : Fin 128) (b : Fin 1536) (h : 24 ≤ t.val) :
    blk1 V c 5 t (ix2 a b : S128x1536.Idx) = aB V c (ix2 a ⟨(t.val / 24 - 1) * 1536 + b.val, by have := t.isLt; have h : t.val < 456 := this; omega⟩) := by
  refine congrArg (aB V c) (funext fun x => Fin.ext ?_)
  refine (Pipeline.Window.rect_emb_val (cfg1.win 5) t _ x).trans ?_
  show cc1_transform_5 (grid1.coords t) x * _ + _ = _
  rw [congrFun (tr5_eq (grid1.coords t)) x, coords1_0]
  match x with
  | ⟨0, _⟩ => show 0 * 128 + a.val = a.val; omega
  | ⟨1, _⟩ => rfl

/-- The decoded matrix: its entry at row `k` and column `n`. -/
def dec (c : Dev nD) (k : Fin 5120) (n : Fin 27648) : Elt F .bf16 :=
  elt (aQ V c (ix2 ⟨k.val / 2, by omega⟩ n)) (aS V c (ix3 ⟨k.val / 640, by omega⟩ ⟨k.val % 640 / 128, by omega⟩ n))
    (aW V c (ix3 ⟨n.val / 128, by omega⟩ ⟨k.val / 2, by omega⟩ ⟨n.val % 128, by omega⟩)) (k.val % 2)

/-- Column `b` of panel `p`. -/
abbrev pcol (p : ℕ) (hp : p < 18) (b : Fin 1536) : Fin 27648 := ⟨p * 1536 + b.val, by omega⟩

/-- The block a point decodes, read at a cell of the scratch buffer, is the decoded matrix there. -/
theorem blkG_dec (c : Dev nD) (t : Fin cfg1.N) (y : S2x5120x1536.Idx) (h : inBlk (grid1.coords t) y) :
    blkG (blk1 V c 2 t) (blk1 V c 3 t) (blk1 V c 4 t) y = dec V c (y 1) (pcol (min (t.val / 24) 17) (by omega) (y 2)) := by
  obtain ⟨-, h1, h2⟩ := h
  rw [coords1_1] at h1 h2
  have hy1 : (y 1).val < 5120 := (y 1).isLt
  have hy2 : (y 2).val < 1536 := (y 2).isLt
  unfold blkG dec
  refine congr (congr (congrArg₂ elt ((blk1_2 V c t _ _).trans (congrArg (aQ V c) ?_)) ((blk1_3 V c t _ _).trans (congrArg (aS V c) ?_)))
    ((blk1_4 V c t _ _ _).trans (congrArg (aW V c) ?_))) ?_
  · congr 1 <;> apply Fin.ext <;> dsimp only [pcol] <;> omega
  · congr 1 <;> apply Fin.ext <;> dsimp only [pcol] <;> omega
  · congr 1 <;> apply Fin.ext <;> dsimp only [pcol] <;> omega
  · omega

end Cert.Proof.KernelIdeal

end
-- ==== Proof.KI.Region1.lean ====
/-
  The second call's proof data: before point `t` one slot of the scratch buffer holds the panel decoded in the column
  step before, the other the part of the next panel decoded so far.
-/
module

public import proofs.«01_k».proof.Proof.KI.Blocks1

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- What the scratch buffer holds before point `t`. -/
def Inv (c : Dev nD) (t : ℕ) (g : S2x5120x1536.Idx → Elt F .bf16) : Prop :=
  ∀ y : S2x5120x1536.Idx,
    (24 ≤ t → (y 0).val = (t / 24 + 1) % 2 → g y = dec V c (y 1) (pcol (min (t / 24 - 1) 17) (by omega) (y 2)))
    ∧ ((y 0).val = t / 24 % 2 → (y 2).val / 512 * 8 + (y 1).val / 640 < t % 24 → g y = dec V c (y 1) (pcol (min (t / 24) 17) (by omega) (y 2)))

theorem Inv_zero (c : Dev nD) (g : S2x5120x1536.Idx → Elt F .bf16) : Inv V c 0 g :=
  fun _ => ⟨fun h => absurd h (by omega), fun _ h => absurd h (by omega)⟩

theorem dec_congr (c : Dev nD) (k : Fin 5120) (b : Fin 1536) {p q : ℕ} (hp : p < 18) (hq : q < 18) (h : p = q) :
    dec V c k (pcol p hp b) = dec V c k (pcol q hq b) := by subst h; rfl

/-- A point keeps the invariant. -/
theorem Inv_step (c : Dev nD) (t : Fin cfg1.N) (g g' : S2x5120x1536.Idx → Elt F .bf16) (h : Inv V c t.val g)
    (hg : ∀ y, g' y = if inBlk (grid1.coords t) y then blkG (blk1 V c 2 t) (blk1 V c 3 t) (blk1 V c 4 t) y else g y) : Inv V c (t.val + 1) g' := by
  intro y
  have hy0 : (y 0).val < 2 := (y 0).isLt
  have hy1 : (y 1).val < 5120 := (y 1).isLt
  have hy2 : (y 2).val < 1536 := (y 2).isLt
  have ht : t.val < 456 := t.isLt
  obtain ⟨ha, hb⟩ := h y
  have hin : inBlk (grid1.coords t) y ↔ (y 0).val = t.val / 24 % 2 ∧ (y 1).val / 640 = t.val % 24 % 8 ∧ (y 2).val / 512 = t.val % 24 / 8 := by
    unfold inBlk; rw [coords1_0, coords1_1]
  rw [hg y]
  by_cases hi : inBlk (grid1.coords t) y
  · rw [if_pos hi, blkG_dec V c t y hi]
    rw [hin] at hi
    constructor
    · intro _ h0
      exact dec_congr V c _ _ _ _ (by omega)
    · intro h0 _
      exact dec_congr V c _ _ _ _ (by omega)
  · rw [if_neg hi]
    rw [hin] at hi
    constructor
    · intro h24 h0
      by_cases hm : t.val % 24 = 23
      · rw [hb (by omega) (by omega)]
        exact dec_congr V c _ _ _ _ (by omega)
      · rw [ha (by omega) (by omega)]
        exact dec_congr V c _ _ _ _ (by omega)
    · intro h0 h1
      rw [hb (by omega) (by omega)]
      exact dec_congr V c _ _ _ _ (by omega)

/-- The decoded panel the products of point `t` read. -/
def panel (c : Dev nD) (t : ℕ) : S1x5120x1536.Idx → Elt F .bf16 :=
  fun z => dec V c (z 1) (pcol (min (t / 24 - 1) 17) (by omega) (z 2))

/-- The result block of point `t`. -/
def res1 (c : Dev nD) (t : Fin cfg1.N) : S512x1536.Idx → Elt F .bf16 :=
  k1_pay2 (k1_pay82 (blk1 V c 0 t) (panel V c t.val)) (k1_pay83 (blk1 V c 1 t) (blk1 V c 5 t))

abbrev sM : Memref sig .tc .vmem S2x5120x1536 .bf16 := Memref.whole cc1_scratch0

theorem slot_panel (c : Dev nD) (t : Fin cfg1.N) (f : Bf (F := F) c sM) (h : Inv V c t.val (sM.view.read (Elt F) f)) (h24 : 24 ≤ t.val) :
    slotOther (grid1.coords t) sM f = panel V c t.val := by
  funext z
  have hc : ((grid1.coords t 0).val + 1) % 2 = (t.val / 24 + 1) % 2 := by rw [coords1_0]
  exact (h (ix3 ⟨((grid1.coords t 0).val + 1) % 2, Nat.mod_lt _ (by decide)⟩ (z 1) (z 2))).1 h24 hc

/-- The buffers the second call does not touch. -/
abbrev some_ (c : Dev nD) (b : Ref sig .tc) : sProp 𝕄 := iprop(∃ f : Buf (Elt F) ((c : Thread nD τ).loc b), ((c : Thread nD τ).loc b) ↦{fullShare} f)

/-- The invariant between points. -/
def Φ1 (c : Dev nD) (t : ℕ) : sProp 𝕄 :=
  iprop(some_ c cc0_stg0_0 ∗ some_ c cc0_stg0_1 ∗ some_ c cc0_stg1_0 ∗ some_ c cc0_stg2_0 ∗ some_ c cc0_stg2_1
    ∗ ∃ f : Bf (F := F) c sM, ⌜Inv V c t (sM.view.read (Elt F) f)⌝ ∗ pt c sM f)

/-- The second call's proof data. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1 V c t
  Φ t := Φ1 V c t.val
  q _ := fullShare
  owed _ := 0

theorem before1_0 (c : Dev nD) (t : Fin cfg1.N) (d) : (dat1 V c).before 0 t d = blk1 V c 0 t :=
  Dat.before_in_eq_fetched (dat := dat1 V c) 0 rfl (fun _ => rfl) (fun _ _ _ => rfl) (fun _ => rfl) t d
theorem before1_1 (c : Dev nD) (t : Fin cfg1.N) (d) : (dat1 V c).before 1 t d = blk1 V c 1 t :=
  Dat.before_in_eq_fetched (dat := dat1 V c) 1 rfl (fun _ => rfl) (fun _ _ _ => rfl) (fun _ => rfl) t d
theorem before1_2 (c : Dev nD) (t : Fin cfg1.N) (d) : (dat1 V c).before 2 t d = blk1 V c 2 t :=
  Dat.before_in_eq_fetched (dat := dat1 V c) 2 rfl (fun _ => rfl) (fun _ _ _ => rfl) (fun _ => rfl) t d
theorem before1_3 (c : Dev nD) (t : Fin cfg1.N) (d) : (dat1 V c).before 3 t d = blk1 V c 3 t :=
  Dat.before_in_eq_fetched (dat := dat1 V c) 3 rfl (fun _ => rfl) (fun _ _ _ => rfl) (fun _ => rfl) t d
theorem before1_4 (c : Dev nD) (t : Fin cfg1.N) (d) : (dat1 V c).before 4 t d = blk1 V c 4 t :=
  Dat.before_in_eq_fetched (dat := dat1 V c) 4 rfl (fun _ => rfl) (fun _ _ _ => rfl) (fun _ => rfl) t d
theorem before1_5 (c : Dev nD) (t : Fin cfg1.N) (d) : (dat1 V c).before 5 t d = blk1 V c 5 t :=
  Dat.before_in_eq_fetched (dat := dat1 V c) 5 rfl (fun _ => rfl) (fun _ _ _ => rfl) (fun _ => rfl) t d

theorem idle_early (t : Fin cfg1.N) (h : t.val < 24) : idle1 6 (grid1.coords t) = true := by
  show (!(k1_cond2 (grid1.coords t) == 1#1)) = true
  have : ¬ k1_cond2 (grid1.coords t) = 1#1 := by rw [cond2_iff, coords1_0]; omega
  simpa using this
theorem idle_late (t : Fin cfg1.N) (h : 24 ≤ t.val) : idle1 6 (grid1.coords t) = false := by
  show (!(k1_cond2 (grid1.coords t) == 1#1)) = false
  have : k1_cond2 (grid1.coords t) = 1#1 := by rw [cond2_iff, coords1_0]; omega
  simpa using this
theorem flush_early (t : Fin cfg1.N) (h : t.val < 24) : (win1 6).flush t = false :=
  (by decide +kernel : ∀ t : Fin cfg1.N, t.val < 24 → (cfg1.win 6).flush t = false) t h

theorem body_obligation1 (c : Dev nD) : BodyObligation (dat1 V c) (defs₀ (F := F)) Variants.none () Set.univ := fun t => by
  rw [bigSep_W1, bigSep_W1]
  show _ ⊢ wp frame (wpE (defs₀ (F := F)) Variants.none c none) Set.univ (bodyAt1 t) _
  rw [show (dat1 V c).Φ t.succ = Φ1 V c (t.val + 1) from rfl, show (dat1 V c).Φ t.castSucc = Φ1 V c t.val from rfl,
    show (dat1 V c).owesAt () t.succ = (dat1 V c).owesAt () t.castSucc from rfl]
  unfold Φ1
  by_cases h24 : 24 ≤ t.val
  · simp only [idle_late t h24]
    have hc1 : ¬ k1_cond1 (grid1.coords t) = 1#1 := by rw [cond1_iff, coords1_0]; omega
    have hc2 : k1_cond2 (grid1.coords t) = 1#1 := by rw [cond2_iff, coords1_0]; omega
    iintro ⟨⟨Ha, Hb, Hc, Hd, He, %f, %hf, Hs⟩, Howes, ⟨%d0, H0⟩, ⟨%d1, H1⟩, ⟨%d2, H2⟩, ⟨%d3, H3⟩, ⟨%d4, H4⟩, ⟨%d5, H5⟩, H6⟩
    rw [before1_0, before1_1, before1_2, before1_3, before1_4, before1_5]
    iapply (bodyspec2 c (grid1.coords t) _ _ _ _ _ _ _ _ _ _ _ _ _ _ sM _ hc1 hc2 (blk1 V c 0 t) (blk1 V c 1 t) (blk1 V c 2 t) (blk1 V c 3 t) (blk1 V c 4 t) (blk1 V c 5 t) f Set.univ _)
    rw [slot_panel V c t f hf h24]
    isplitl [H0]; · iexact H0
    isplitl [H1]; · iexact H1
    isplitl [H2]; · iexact H2
    isplitl [H3]; · iexact H3
    isplitl [H4]; · iexact H4
    isplitl [H5]; · iexact H5
    isplitl [H6]; · icases H6 with ⟨%d6, H6⟩; iexists _; iexact H6
    isplitl [Hs]; · iexact Hs
    iintro ⟨H0, H1, H2, H3, H4, H5, H6, %f', %hf', Hs⟩
    isplitl [Ha Hb Hc Hd He Hs]
    · isplitl [Ha]; · iexact Ha
      isplitl [Hb]; · iexact Hb
      isplitl [Hc]; · iexact Hc
      isplitl [Hd]; · iexact Hd
      isplitl [He]; · iexact He
      iexists f'; isplitr; swap; (· iexact Hs)
      ipureintro
      exact Inv_step V c t _ _ hf hf'
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6
  · have hlt : t.val < 24 := by omega
    simp only [idle_early t hlt, flush_early t hlt]
    have hc1 : k1_cond1 (grid1.coords t) = 1#1 := by rw [cond1_iff, coords1_0]; omega
    have hc2 : ¬ k1_cond2 (grid1.coords t) = 1#1 := by rw [cond2_iff, coords1_0]; omega
    iintro ⟨⟨Ha, Hb, Hc, Hd, He, %f, %hf, Hs⟩, Howes, ⟨%d0, H0⟩, ⟨%d1, H1⟩, ⟨%d2, H2⟩, ⟨%d3, H3⟩, ⟨%d4, H4⟩, ⟨%d5, H5⟩, ⟨%d6, H6⟩⟩
    rw [before1_0, before1_1, before1_2, before1_3, before1_4, before1_5]
    iapply (bodyspec1 c (grid1.coords t) _ _ _ _ _ _ _ _ _ _ _ _ _ _ sM _ hc1 hc2 (blk1 V c 0 t) (blk1 V c 1 t) (blk1 V c 2 t) (blk1 V c 3 t) (blk1 V c 4 t) (blk1 V c 5 t) ((dat1 V c).before 6 t d6) f Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iintro ⟨H0, H1, H2, H3, H4, H5, H6, %f', %hf', Hs⟩
    isplitl [Ha Hb Hc Hd He Hs]
    · isplitl [Ha]; · iexact Ha
      isplitl [Hb]; · iexact Hb
      isplitl [Hc]; · iexact Hc
      isplitl [Hd]; · iexact Hd
      isplitl [He]; · iexact He
      iexists f'; isplitr; swap; (· iexact Hs)
      ipureintro
      exact Inv_step V c t _ _ hf hf'
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexists d6; iexact H6

end Cert.Proof.KernelIdeal

end
-- ==== Proof.KI.Seg1.lean ====
/-
  The second call as a segment.
-/
module

public import proofs.«01_k».proof.Proof.KI.Region1
public import proofs.«01_k».proof.Proof.Gen.KernelIdeal.Regions
public import Idealize.ShloMosaic.Lib.Pipeline.RegionsLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

theorem Φ1_intro (c : Dev nD) : (Pipeline.scopedRest (Ix := Unit) (Name := ℕ) (U := UU) (Lvl := ℕ) (Val := Elt F) spec1 c : sProp 𝕄) ⊢ Φ1 V c 0 := by
  rw [scopedRest1_eq]
  unfold Φ1
  iintro ⟨Ha, Hb, Hc, Hd, He, %f, Hs⟩
  isplitl [Ha]; · iexact Ha
  isplitl [Hb]; · iexact Hb
  isplitl [Hc]; · iexact Hc
  isplitl [Hd]; · iexact Hd
  isplitl [He]; · iexact He
  iexists f; isplitr; swap; (· iexact Hs)
  ipureintro
  exact Inv_zero V c _

theorem Φ1_elim (c : Dev nD) : Φ1 V c 456 ⊢ (Pipeline.scopedRest (Ix := Unit) (Name := ℕ) (U := UU) (Lvl := ℕ) (Val := Elt F) spec1 c : sProp 𝕄) := by
  rw [scopedRest1_eq]
  unfold Φ1
  iintro ⟨Ha, Hb, Hc, Hd, He, %f, -, Hs⟩
  isplitl [Ha]; · iexact Ha
  isplitl [Hb]; · iexact Hb
  isplitl [Hc]; · iexact Hc
  isplitl [Hd]; · iexact Hd
  isplitl [He]; · iexact He
  iexists f; iexact Hs

set_option backward.isDefEq.respectTransparency.types false in
/-- The second call as a segment, for any family of proof data with `dat1 V` at place 1. -/
def reg1 (pdats : (p : Fin 2) → (c : Dev nD) → Dat τ (Elt F) Unit ℕ UU ℕ (cfgs p) c) (hd : pdats 1 = dat1 V)
    (Vp : (c : Dev nD) → Valuation τ sig (Elt F)) (hVp_out : ∀ c, Vp c main_v3 = (dat1 V c).arrAt 6 cfg1.N)
    (hVp_ne : ∀ c (b : Ref sig .tc), b ≠ main_v3 → Vp c b = V c b) :
    Pipeline.RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hd]; exact (body_obligation1 V c).loose
  hwaits := Pipeline.hwaits_of_owed_zero _ _ _ _ L lv 1 fun _ _ => by rw [hd]; rfl
  pre c := iprop(StableHlo.held (c : Thread nD τ) (Pipeline.ucRefs τ sig) (V c) ∗ Rst c)
  post c := iprop(StableHlo.held (c : Thread nD τ) (Pipeline.ucRefs τ sig) (Vp c) ∗ Rst c)
  X _ := BI.emp
  Y _ := BI.emp
  Z c := Pipeline.unscopedRest (Ix := Unit) (Name := ℕ) (U := UU) (Lvl := ℕ) spec1 c (fun b => V c b)
  hentry c := by
    rw [Pipeline.ownSems0_none]
    have hsplit := Pipeline.arrays_of_unscopedBufs (p := 1) (pcfgs (F := F)) adm pdats launch1.win launch1.arr_whole c
      ((pdats 1 c).share_full fun _ => by rw [hd]; rfl) (fun b => V c b) fun _ => by rw [hd]; rfl
    rw [← Pipeline.unscopedBufs_held (Ix := Unit) (Name := ℕ) (U := UU) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [hd]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats 1 c).Φ 0 = Φ1 V c 0 from by rw [hd]; rfl]
    iintro ⟨-, -, Hr⟩
    iapply (Φ1_intro V c) $$ Hr
  hout c := by
    rw [Pipeline.ownSems0_none, show (pdats 1 c).Φ (Fin.last _) = Φ1 V c 456 from by rw [hd]; rfl]
    iintro Hr
    isplitr; · iempintro
    isplitr; · iempintro
    iapply (Φ1_elim V c) $$ Hr
  hexit c := by
    have hjoin := Pipeline.unscopedBufs_of_arrays (p := 1) (pcfgs (F := F)) adm (Ix := Unit) (Name := ℕ) (U := UU) (Lvl := ℕ) launch1.win launch1.arr_whole c
      pdats ((pdats 1 c).share_full fun _ => by rw [hd]; rfl) (fun b => V c b) (fun b => Vp c b) ((pdats 1 c).arrAt · cfg1.N)
      (fun w => by
        rw [hd]
        fin_cases w
        · exact ((dat1 V c).arrAt_in 0 rfl _).trans (hVp_ne c main_v0 (by decide)).symm
        · exact ((dat1 V c).arrAt_in 1 rfl _).trans (hVp_ne c main_v1 (by decide)).symm
        · exact ((dat1 V c).arrAt_in 2 rfl _).trans (hVp_ne c main_arg1 (by decide)).symm
        · exact ((dat1 V c).arrAt_in 3 rfl _).trans (hVp_ne c main_v2 (by decide)).symm
        · exact ((dat1 V c).arrAt_in 4 rfl _).trans (hVp_ne c main_arg3 (by decide)).symm
        · exact ((dat1 V c).arrAt_in 5 rfl _).trans (hVp_ne c main_arg5 (by decide)).symm
        · exact (hVp_out c).symm)
      (fun b hb => hVp_ne c b fun h => hb (h ▸ Finset.mem_image.mpr ⟨6, Finset.mem_univ _, rfl⟩))
    rw [← Pipeline.unscopedBufs_held (Ix := Unit) (Name := ℕ) (U := UU) (Lvl := ℕ) c (Vp c)]
    iintro ⟨Ha, HO, -, Hrest⟩
    imodintro
    isplitl [Ha Hrest]
    · iapply hjoin; isplitl [Ha] <;> iassumption
    rw [hd]
    unfold Pipeline.Dat.owesAt Pipeline.owesWithin
    icases HO with ⟨%W, -, HO⟩; iexists W; iexact HO

end Cert.Proof.KernelIdeal

end
-- ==== Proof.KI.Run.lean ====
/-
  The whole program's run: its arguments kept and its result named.
-/
module

public import proofs.«01_k».proof.Proof.KI.Seg1
public import proofs.«01_k».proof.Proof.Gen.KernelIdeal.Regions
public import Idealize.ShloMosaic.Lib.Pipeline.RegionsLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ)

-- `θ_run_regions_kit_dev_sems`'s implicit arguments are found by unifying its conclusion with this one, which takes unfolding
-- plain definitions in a metavariable's type
set_option backward.isDefEq.respectTransparency.types false in
/-- The run, given the two calls' segments: as the generated conditional frame, with the result's buffer read too. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = V5 m outs c main_v4)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v4) = V5 m outs c main_v4)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        (h (Proc.devRef .tc main_arg5) (Finset.mem_filter.mpr ⟨StableHlo.devRef_mem_tcRefs main_arg5, by decide⟩)).trans (V5_main_arg5 m outs c),
        h (Proc.devRef .tc main_v4) (Finset.mem_filter.mpr ⟨StableHlo.devRef_mem_tcRefs main_v4, by decide⟩)⟩
    · iexact HSI

/-- What the first call leaves in its result array. -/
def out0 (c : Dev nD) : Buf (Elt F) ((c : Thread nD τ).loc main_v1) := (dat0 (V1 m) c).arrAt 2 cfg0.N

/-- The contents after the first call. -/
def outsA : Outs (F := F) := fun _ r c => (Function.update (fun b : DevRef τ sig => m (c, b)) main_v1 (out0 m c) : Valuation τ sig (Elt F)) r

/-- What the second call leaves in its result array. -/
def out1 (c : Dev nD) : Buf (Elt F) ((c : Thread nD τ).loc main_v3) := (dat1 (V3 m (outsA m)) c).arrAt 6 cfg1.N

/-- The contents after either call. -/
def outs : Outs (F := F) := fun _ r c =>
  (Function.update (Function.update (fun b : DevRef τ sig => m (c, b)) main_v1 (out0 m c) : Valuation τ sig (Elt F)) main_v3 (out1 m c) : Valuation τ sig (Elt F)) r

theorem outsA_v1 (J : ℕ) (c : Dev nD) : outsA m J main_v1 c = out0 m c := Function.update_self ..
theorem outs_v3 (J : ℕ) (c : Dev nD) : outs m J main_v3 c = out1 m c := Function.update_self ..
theorem outs_v1 (J : ℕ) (c : Dev nD) : outs m J main_v1 c = out0 m c :=
  (Function.update_of_ne (by decide) _ _).trans (Function.update_self ..)

theorem V2_outs (c : Dev nD) : V2 m (outs m) c = V2 m (outsA m) c := by
  show Function.update (V1 m c) main_v1 (outs m 2 main_v1 c) = Function.update (V1 m c) main_v1 (outsA m 2 main_v1 c)
  rw [outs_v1, outsA_v1]
theorem V3_outs (c : Dev nD) : V3 m (outs m) c = V3 m (outsA m) c := by
  show StableHlo.after hostOps1 (V2 m (outs m) c) = StableHlo.after hostOps1 (V2 m (outsA m) c)
  rw [V2_outs]

/-- The two calls' proof data. -/
def pdats : (p : Fin 2) → (c : Dev nD) → Dat τ (Elt F) Unit ℕ UU ℕ (cfgs p) c
  | ⟨0, _⟩ => fun c => dat0 (V1 m) c
  | ⟨1, _⟩ => fun c => dat1 (V3 m (outs m)) c

theorem out1_eq (c : Dev nD) : out1 m c = (dat1 (V3 m (outs m)) c).arrAt 6 cfg1.N := by
  unfold out1
  rw [show V3 m (outsA m) = V3 m (outs m) from funext fun c => (V3_outs m c).symm]

/-- @main runs, keeps its arguments and leaves its result at the last valuation's. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v4) = V5 m (outs m) c main_v4)
      ∧ r.2.sem = fun _ => 0) := by
  refine run_cond m emb₁ () Variants.none L lv (fun _ _ => rfl) ρ (outs m) (pdats m) (fun _ => 0) (fun _ => BI.emp)
    (initOf (Pipeline.cells cfgs cellOf_inj) (Pipeline.launchToks cfgs cellOf_inj)) ?_ (fun _ c => Rst c) ?_ (fun _ => .rfl)
    (reg0 (V1 m) (pdats m) rfl (V2 m (outs m)) (fun c => (Function.update_self ..).trans (outs_v1 m 2 c)) (fun c b hb => V2_of m (outs m) c b (by simpa using hb)))
    (fun _ => .rfl) (fun _ => .rfl)
    (reg1 (V3 m (outs m)) (pdats m) rfl (V4 m (outs m)) (fun c => (Function.update_self ..).trans ((outs_v3 m 4 c).trans (out1_eq m c))) (fun c b hb => V4_of m (outs m) c b (by simpa using hb)))
    (fun _ => .rfl) (fun _ => .rfl)
  · rw [ownU_emb₁]
    iintro H
    imodintro
    isplitl [H]; · iexact H
    rw [bigSep_emp_const]
    iempintro
  · have hm : (bigSep Finset.univ fun c : Dev nD => iprop(unscopedSems0 c ∗ owes (c : Thread nD τ) (0 : CellTallies nD τ sig Unit) ∅ ∗ Pipeline.launchCred (fun _ => 0) c ∗ prngReg c (ρ c) ∗ BI.emp) : sProp 𝕄)
        ⊢ (bigSep Finset.univ fun c : Dev nD => Rst c : sProp 𝕄) := bigSep_mono fun c _ => by
      show (iprop(unscopedSems0 c ∗ owes (c : Thread nD τ) (0 : CellTallies nD τ sig Unit) ∅ ∗ Pipeline.launchCred (fun _ => 0) c ∗ prngReg c (ρ c) ∗ BI.emp) : sProp 𝕄) ⊢ Rst c
      iintro ⟨-, HO, -⟩
      iexists _
      iexact HO
    iintro ⟨H, -⟩
    imodintro
    iapply hm $$ H

end Cert.Proof.KernelIdeal

end
-- ==== Proof.Arith.lean ====
/-
  The arithmetic of the extended reals the two programs differ by: what a decoded nibble is, when a product distributes over
  a sum, a sum over all rows split into even and odd ones, and the factor one eighth taken out of a sum.
-/
module

public import proofs.«01_k».proof.Proof.Scalar
public import Idealize.ShloMosaic.PureOps.Ideal.Laws

@[expose] public section

noncomputable section

namespace Cert.Proof

open Idealize.ShloMosaic
open scoped BigOperators

/-- Nibble `h` of a byte (0 the low one), read as a signed number. -/
def nib (q : BitVec 8) (h : ℕ) : ℤ :=
  if q.toNat / 16 ^ h % 16 < 8 then (q.toNat / 16 ^ h % 16 : ℕ) else (q.toNat / 16 ^ h % 16 : ℕ) - 16

set_option maxRecDepth 100000 in
theorem half_code : ∀ (q : BitVec 8) (h : Fin 2),
    half (code q) h.val = BitVec.ofNat 16 (17152 + ((8 ^^^ (q.toNat / 16 ^ h.val % 16)) : ℕ)) := by
  decide +kernel

theorem ofBits_biased (f : Fin 16) : Ideal.ofBits .bf16 (BitVec.ofNat 16 (17152 + f.val)) = (((128 + f.val : ℕ) : ℝ) : EReal) := by
  fin_cases f <;> simp [Ideal.ofBits, Ideal.ieee] <;> norm_num

theorem biased_sub (c : Fin 16) :
    Ideal.ofBits .bf16 (BitVec.ofNat 16 (17152 + ((8 ^^^ c.val) : ℕ))) - Ideal.ofBits .bf16 17160#16
      = (((if c.val < 8 then (c.val : ℤ) else (c.val : ℤ) - 16 : ℤ) : ℝ) : EReal) := by
  have hx : (8 ^^^ c.val : ℕ) < 16 := by revert c; decide
  have h1 := ofBits_biased ⟨(8 ^^^ c.val : ℕ), hx⟩
  have h2 := ofBits_biased ⟨8, by decide⟩
  have e : (17160#16 : BitVec 16) = BitVec.ofNat 16 (17152 + 8) := rfl
  rw [e]
  refine (congrArg₂ (fun a b : EReal => a - b) h1 h2).trans ?_
  have hz : (((128 + (8 ^^^ c.val : ℕ) : ℕ) : ℤ) - ((128 + 8 : ℕ) : ℤ)) = if c.val < 8 then (c.val : ℤ) else (c.val : ℤ) - 16 := by
    clear h1 h2 hx; revert c; decide
  rw [← hz, ← EReal.coe_sub]
  push_cast
  rfl

/-- A decoded entry: the signed nibble times the scale, plus the sparse entry. -/
theorem elt_ideal (q : BitVec 8) (sc : Ideal .f32) (w : BitVec 32) (h : Fin 2) :
    elt (F := Ideal) q sc w h.val = ((nib q h.val : ℝ) : EReal) * sc + Ideal.ofBits .bf16 (half w h.val) := by
  have hb := biased_sub ⟨q.toNat / 16 ^ h.val % 16, Nat.mod_lt _ (by decide)⟩
  rw [← half_code q h] at hb
  exact congrArg (fun z : EReal => z * sc + Ideal.ofBits .bf16 (half w h.val)) hb

/-- A finite number times a sum with a finite first term. -/
theorem mul_add_finite (r a : ℝ) (s : EReal) : (r : EReal) * ((a : EReal) + s) = r * a + r * s := by
  induction s with
  | coe s => norm_cast; ring
  | top =>
    rw [EReal.coe_add_top]
    rcases lt_trichotomy r 0 with h | h | h
    · rw [EReal.coe_mul_top_of_neg h, ← EReal.coe_mul, EReal.add_bot]
    · subst h; simp
    · rw [EReal.coe_mul_top_of_pos h, ← EReal.coe_mul, EReal.coe_add_top]
  | bot =>
    rw [EReal.add_bot]
    rcases lt_trichotomy r 0 with h | h | h
    · rw [EReal.coe_mul_bot_of_neg h, ← EReal.coe_mul, EReal.coe_add_top]
    · subst h; simp
    · rw [EReal.coe_mul_bot_of_pos h, EReal.add_bot]

/-- An extended real whose absolute value is below `⊤` is a real number. -/
theorem finite_of_abs {z : EReal} (h : max z (-z) < ⊤) : ∃ r : ℝ, z = r := by
  induction z with
  | coe r => exact ⟨r, rfl⟩
  | top => simp at h
  | bot => simp at h

theorem sum_two_mul (n : ℕ) (f : Fin (n * 2) → EReal) :
    ∑ k, f k = ∑ j : Fin n, f ⟨2 * j.val, by omega⟩ + ∑ j : Fin n, f ⟨2 * j.val + 1, by omega⟩ := by
  have e : ∑ k, f k = ∑ p : Fin n × Fin 2, f (finProdFinEquiv p) :=
    (Fintype.sum_equiv finProdFinEquiv _ _ fun _ => rfl).symm
  rw [e, Fintype.sum_prod_type, ← Finset.sum_add_distrib]
  refine Finset.sum_congr rfl fun j _ => ?_
  rw [Fin.sum_univ_two]
  congr 2 <;> apply Fin.ext <;> simp [finProdFinEquiv] <;> omega

/-- A sum over 5120 rows is the sum over the even ones plus the sum over the odd ones. -/
theorem sum_even_odd (f : Fin 5120 → EReal) :
    ∑ k, f k = ∑ j : Fin 2560, f ⟨2 * j.val, by omega⟩ + ∑ j : Fin 2560, f ⟨2 * j.val + 1, by omega⟩ :=
  sum_two_mul 2560 f

/-- A nonnegative real factor leaves a sum. -/
theorem mul_sum_pos {ι : Type} (S : Finset ι) (r : ℝ) (h : 0 ≤ r) (f : ι → EReal) : ∑ i ∈ S, (r : EReal) * f i = (r : EReal) * ∑ i ∈ S, f i := by
  classical
  induction S using Finset.induction_on with
  | empty => simp
  | insert a s ha ih =>
    rw [Finset.sum_insert ha, Finset.sum_insert ha, ih,
      EReal.left_distrib_of_nonneg_of_ne_top (EReal.coe_nonneg.2 h) (EReal.coe_ne_top r)]

theorem eighth_bf16 : Ideal.ofBits .bf16 0x3E00#16 = ((1 / 8 : ℝ) : EReal) := by
  simp [Ideal.ofBits, Ideal.ieee]; rw [← EReal.coe_mul]; norm_num
theorem eighth_f32 : Ideal.ofBits .f32 0x3E000000#32 = ((1 / 8 : ℝ) : EReal) := by
  simp [Ideal.ofBits, Ideal.ieee]; rw [← EReal.coe_mul]; norm_num

/-- The two programs' entry, as sums: rows `X` against decoded entries `W + S`, and the low-rank term. -/
theorem entry_eq (X W S : Fin 5120 → EReal) (T B : Fin 128 → EReal) (hX : ∀ k, ∃ r : ℝ, X k = r) (hW : ∀ k, ∃ r : ℝ, W k = r) :
    (∑ k, X k * (W k + S k)) + ∑ j, (T j * ((1 / 8 : ℝ) : EReal)) * B j
      = ((∑ j : Fin 2560, X ⟨2 * j.val, by omega⟩ * W ⟨2 * j.val, by omega⟩
          + ∑ j : Fin 2560, X ⟨2 * j.val + 1, by omega⟩ * W ⟨2 * j.val + 1, by omega⟩) + ∑ k, X k * S k)
        + ((1 / 8 : ℝ) : EReal) * ∑ j, T j * B j := by
  have h1 : ∑ k, X k * (W k + S k) = ∑ k, X k * W k + ∑ k, X k * S k := by
    rw [← Finset.sum_add_distrib]
    refine Finset.sum_congr rfl fun k _ => ?_
    obtain ⟨r, hr⟩ := hX k
    obtain ⟨a, ha⟩ := hW k
    rw [hr, ha, mul_add_finite]
  rw [h1, sum_even_odd fun k => X k * W k, ← mul_sum_pos _ _ (by norm_num)]
  refine congrArg _ (Finset.sum_congr rfl fun j _ => ?_)
  rw [mul_comm (T j), mul_assoc]

end Cert.Proof

end
-- ==== Proof.KI.Value.lean ====
/-
  What the two calls leave in their result arrays, over the extended reals, entry by entry.
-/
module

public import proofs.«01_k».proof.Proof.Arith
public import proofs.«01_k».proof.Proof.KI.Run
public import Idealize.ShloMosaic.Lib.MatmulPlain
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe
open scoped BigOperators

/-- A product onto a zero accumulator, at an entry. -/
theorem mm_apply {M K N : ℕ} (x : FVec Ideal ⟨2, ![M, K]⟩ .bf16) (y : FVec Ideal ⟨2, ![K, N]⟩ .bf16) (a : Fin M) (b : Fin N) :
    FloatOps.matmul (DotDims.plain M K N) none x y (constant ⟨2, ![M, N]⟩ .f32 0x00000000#32 : FVec Ideal ⟨2, ![M, N]⟩ .f32) (ix2 a b)
      = ∑ k : Fin K, (x (ix2 a k) * y (ix2 k b) : EReal) := by
  refine (Ideal.matmul_plain_apply none x y _ a b).trans ?_
  refine (congrArg (fun z : EReal => z + _) Ideal.ofBits_zero_f32).trans ?_
  exact zero_add _

section
variable (X : S768x5120.Idx → EReal) (Y : S5120x128.Idx → EReal)

theorem k0_pay1_apply (a : Fin 768) (j : Fin 128) :
    k0_pay1 (F := Ideal) X Y (ix2 a j) = (∑ k : Fin 5120, X (ix2 a k) * Y (ix2 k j)) * ((1 / 8 : ℝ) : EReal) := by
  rw [← eighth_bf16]
  unfold k0_pay1
  rw [shapeCast_self]
  exact congrArg (fun z : EReal => z * Ideal.ofBits .bf16 0x3E00#16) (mm_apply (M := 768) (K := 5120) (N := 128) X Y a j)

end

section
variable (X : S512x5120.Idx → EReal) (Y : S1x5120x1536.Idx → EReal) (T : S512x128.Idx → EReal) (B : S128x1536.Idx → EReal)

theorem k1_pay82_apply (a : Fin 512) (b : Fin 1536) :
    k1_pay82 (F := Ideal) X Y (ix2 a b) = ∑ k : Fin 5120, X (ix2 a k) * Y (ix3 0 k b) := by
  have e : ∀ k : Fin 5120, shapeCast S5120x1536 (α := Elt Ideal .bf16) Y shapeCasts_S1x5120x1536_S5120x1536 (ix2 k b) = Y (ix3 0 k b) := fun k => by
    pointwise
  unfold k1_pay82
  rw [shapeCast_self]
  refine (mm_apply (M := 512) (K := 5120) (N := 1536) X _ a b).trans ?_
  exact Finset.sum_congr rfl fun k _ => congrArg (fun z : EReal => X (ix2 a k) * z) (e k)

theorem k1_pay83_apply (a : Fin 512) (b : Fin 1536) :
    k1_pay83 (F := Ideal) T B (ix2 a b) = ∑ k : Fin 128, T (ix2 a k) * B (ix2 k b) := by
  unfold k1_pay83
  rw [shapeCast_self]
  exact mm_apply (M := 512) (K := 128) (N := 1536) T B a b

theorem k1_pay2_apply (P Q : S512x1536.Idx → EReal) (y : S512x1536.Idx) : k1_pay2 (F := Ideal) P Q y = P y + Q y := rfl

end

variable (V : (c : Dev nD) → Valuation τ sig (Elt Ideal))

theorem tr00_eq (i : grid0.Coords) : cc0_transform_0 i = ![(i 0).val, 0] := by
  funext x; revert x; revert i; decide +kernel
theorem tr01_eq (i : grid0.Coords) : cc0_transform_1 i = ![0, 0] := by
  funext x; revert x; revert i; decide +kernel
theorem tr02_eq (i : grid0.Coords) : cc0_transform_2 i = ![(i 0).val, 0] := by
  funext x; revert x; revert i; decide +kernel

theorem coords0_0 (t : Fin cfg0.N) : (grid0.coords t 0).val = t.val :=
  (by decide +kernel : ∀ t : Fin cfg0.N, (grid0.coords t 0).val = t.val) t

abbrev aA (c : Dev nD) : S5120x128.Idx → EReal := V c main_arg4

theorem blk0_0 (c : Dev nD) (t : Fin cfg0.N) (a : Fin 768) (k : Fin 5120) :
    blk0 V c 0 t (ix2 a k : S768x5120.Idx) = aX V c (ix2 ⟨t.val * 768 + a.val, by have h : t.val < 16 := t.isLt; omega⟩ k) := by
  refine congrArg (aX V c) (funext fun x => Fin.ext ?_)
  refine (Pipeline.Window.rect_emb_val (cfg0.win 0) t _ x).trans ?_
  show cc0_transform_0 (grid0.coords t) x * _ + _ = _
  rw [congrFun (tr00_eq (grid0.coords t)) x, coords0_0]
  match x with
  | ⟨0, _⟩ => rfl
  | ⟨1, _⟩ => show 0 * 5120 + k.val = k.val; omega

theorem blk0_1 (c : Dev nD) (t : Fin cfg0.N) (a : Fin 5120) (k : Fin 128) :
    blk0 V c 1 t (ix2 a k : S5120x128.Idx) = aA V c (ix2 a k) := by
  refine congrArg (aA V c) (funext fun x => Fin.ext ?_)
  refine (Pipeline.Window.rect_emb_val (cfg0.win 1) t _ x).trans ?_
  show cc0_transform_1 (grid0.coords t) x * _ + _ = _
  rw [congrFun (tr01_eq (grid0.coords t)) x]
  match x with
  | ⟨0, _⟩ => show 0 * 5120 + a.val = a.val; omega
  | ⟨1, _⟩ => show 0 * 128 + k.val = k.val; omega

/-- The low-rank rows the first call leaves: the product of the rows with `A`, times one eighth. -/
def low (c : Dev nD) (r : Fin 12288) (j : Fin 128) : EReal :=
  (∑ k : Fin 5120, aX V c (ix2 r k) * aA V c (ix2 k j)) * ((1 / 8 : ℝ) : EReal)

theorem emb0 (t : Fin cfg0.N) (y : S768x128.Idx) :
    ((cfg0.win 2).blk t).view.emb y = (ix2 ⟨t.val * 768 + (y 0).val, by have h : t.val < 16 := t.isLt; have h' : (y 0).val < 768 := (y 0).isLt; omega⟩ (y 1) : S12288x128.Idx) := by
  funext x
  apply Fin.ext
  refine (Pipeline.Window.rect_emb_val (cfg0.win 2) t _ x).trans ?_
  show cc0_transform_2 (grid0.coords t) x * _ + _ = _
  rw [congrFun (tr02_eq (grid0.coords t)) x, coords0_0]
  match x with
  | ⟨0, _⟩ => rfl
  | ⟨1, _⟩ => show 0 * 128 + (y 1).val = (y 1).val; omega

theorem arr0 (c : Dev nD) : (dat0 V c).arrAt 2 cfg0.N = fun z : S12288x128.Idx => low V c (z 0) (z 1) := by
  refine (dat0 V c).arrAt_eq_of_covers 2 _ (by decide +kernel) fun t hf y => ?_
  refine Eq.trans ?_ (congrArg (fun z : S12288x128.Idx => low V c (z 0) (z 1)) (emb0 t y)).symm
  show k0_pay1 (F := Ideal) (blk0 V c 0 t) (blk0 V c 1 t) y = _
  have hy : y = ix2 (y 0) (y 1) := by funext a; match a with | ⟨0, _⟩ => rfl | ⟨1, _⟩ => rfl
  refine ((congrArg _ hy).trans (k0_pay1_apply (blk0 V c 0 t) (blk0 V c 1 t) (y 0) (y 1))).trans ?_
  refine congrArg (fun z : EReal => z * _) (Finset.sum_congr rfl fun k _ => ?_)
  exact congrArg₂ (fun a b : EReal => a * b) (blk0_0 V c t (y 0) k) (blk0_1 V c t k (y 1))

/-- What the second call leaves: rows against the decoded matrix, plus the low-rank rows against `B`. -/
def tot (c : Dev nD) (r : Fin 12288) (n : Fin 27648) : EReal :=
  (∑ k : Fin 5120, aX V c (ix2 r k) * dec (F := Ideal) V c k n) + ∑ j : Fin 128, aT V c (ix2 r j) * aB V c (ix2 j n)

theorem flush6 : ∀ t : Fin cfg1.N, (cfg1.win 6).flush t = true → 24 ≤ t.val := by decide +kernel

theorem emb1 (t : Fin cfg1.N) (h : 24 ≤ t.val) (y : S512x1536.Idx) :
    ((cfg1.win 6).blk t).view.emb y = (ix2 ⟨t.val % 24 * 512 + (y 0).val, by have h' : (y 0).val < 512 := (y 0).isLt; omega⟩
      ⟨(t.val / 24 - 1) * 1536 + (y 1).val, by have h : t.val < 456 := t.isLt; have h' : (y 1).val < 1536 := (y 1).isLt; omega⟩ : S12288x27648.Idx) := by
  funext x
  apply Fin.ext
  refine (Pipeline.Window.rect_emb_val (cfg1.win 6) t _ x).trans ?_
  show cc1_transform_6 (grid1.coords t) x * _ + _ = _
  rw [congrFun (tr6_eq (grid1.coords t)) x, coords1_0, coords1_1, if_neg (by omega)]
  match x with
  | ⟨0, _⟩ => rfl
  | ⟨1, _⟩ => rfl

theorem arr1 (c : Dev nD) : (dat1 V c).arrAt 6 cfg1.N = fun z : S12288x27648.Idx => tot V c (z 0) (z 1) := by
  refine (dat1 V c).arrAt_eq_of_covers 6 _ (by decide +kernel) fun t hf y => ?_
  have h24 := flush6 t hf
  have ht : t.val < 456 := t.isLt
  refine Eq.trans ?_ (congrArg (fun z : S12288x27648.Idx => tot V c (z 0) (z 1)) (emb1 t h24 y)).symm
  show res1 (F := Ideal) V c t y = _
  have hy : y = ix2 (y 0) (y 1) := by funext a; match a with | ⟨0, _⟩ => rfl | ⟨1, _⟩ => rfl
  refine ((congrArg _ hy).trans (k1_pay2_apply _ _ _)).trans ?_
  refine congrArg₂ (fun a b : EReal => a + b) ?_ ?_
  · refine (k1_pay82_apply _ _ (y 0) (y 1)).trans (Finset.sum_congr rfl fun k _ => ?_)
    refine congrArg₂ (fun a b : EReal => a * b) (blk1_0 V c t (y 0) k h24) ?_
    refine congrArg (dec V c k) (Fin.ext ?_)
    show min (t.val / 24 - 1) 17 * 1536 + (y 1).val = (t.val / 24 - 1) * 1536 + (y 1).val
    rw [Nat.min_eq_left (by omega)]
  · refine (k1_pay83_apply _ _ (y 0) (y 1)).trans (Finset.sum_congr rfl fun k _ => ?_)
    exact congrArg₂ (fun a b : EReal => a * b) (blk1_1 V c t (y 0) k h24) (blk1_5 V c t k (y 1) h24)

end Cert.Proof.KernelIdeal

end
-- ==== Proof.KI.Result.lean ====
/-
  An entry of the program's result over the extended reals, as sums over the arguments.
-/
module

public import proofs.«01_k».proof.Proof.KI.Value

@[expose] public section

set_option maxRecDepth 16384

noncomputable section

namespace Cert.Proof.KernelIdeal

open Cert.KernelIdeal Cert.KernelIdeal.Gen
open Idealize.ShloMosaic Idealize.ShloMosaic.TcCoe
open scoped BigOperators

variable (m : (ℓ : Loc nD τ sig) → Buf (Elt Ideal) ℓ) (c : Dev nD)

abbrev gX : S2x6144x5120.Idx → EReal := m ((c.tc : Thread nD τ).loc main_arg0)
abbrev gQ : S2560x27648.Idx → BitVec 8 := m ((c.tc : Thread nD τ).loc main_arg1)
abbrev gS : S40x27648.Idx → EReal := m ((c.tc : Thread nD τ).loc main_arg2)
abbrev gW : S216x2560x128.Idx → BitVec 32 := m ((c.tc : Thread nD τ).loc main_arg3)
abbrev gA : S5120x128.Idx → EReal := m ((c.tc : Thread nD τ).loc main_arg4)
abbrev gB : S128x27648.Idx → EReal := m ((c.tc : Thread nD τ).loc main_arg5)

/-- The row of the flattened matrix that row `s` of batch `b` becomes. -/
abbrev row (b : Fin 2) (s : Fin 6144) : Fin 12288 := ⟨b.val * 6144 + s.val, by omega⟩

theorem V1_v0 (b : Fin 2) (s : Fin 6144) (k : Fin 5120) :
    aX (F := Ideal) (V1 m) c (ix2 (row b s) k) = gX m c (ix3 b s k) := by
  have h : V1 m c main_v0 = shapeCast S12288x5120 (gX m c) shapeCasts_S2x6144x5120_S12288x5120 := by
    show StableHlo.after hostOps0 (V0 m c) _ = _
    simp only [hostOps0]
    after_results_simp
    rfl
  refine (congrFun h _).trans ?_
  exact shapeCast_apply _ _ _ (ix3 b s k) (by rw [Shape.rowMajor_val_two, Shape.rowMajor_val_three]; rfl)

theorem V3_v0 (b : Fin 2) (s : Fin 6144) (k : Fin 5120) :
    aX (F := Ideal) (V3 m (outs m)) c (ix2 (row b s) k) = gX m c (ix3 b s k) :=
  (congrFun ((V3_of m (outs m) c main_v0 (by decide)).trans (V2_of m (outs m) c main_v0 (by decide))) _).trans (V1_v0 m c b s k)

theorem V3_v1 (b : Fin 2) (s : Fin 6144) (j : Fin 128) :
    aT (F := Ideal) (V3 m (outs m)) c (ix2 (row b s) j)
      = (∑ k : Fin 5120, gX m c (ix3 b s k) * gA m c (ix2 k j)) * ((1 / 8 : ℝ) : EReal) := by
  have h : V3 m (outs m) c main_v1 = fun z : S12288x128.Idx => low (V1 m) c (z 0) (z 1) :=
    (V3_of m (outs m) c main_v1 (by decide)).trans ((Function.update_self ..).trans ((outs_v1 m 2 c).trans (arr0 (V1 m) c)))
  refine (congrFun h _).trans ?_
  refine congrArg (fun z : EReal => z * _) (Finset.sum_congr rfl fun k _ => ?_)
  exact congrArg₂ (fun a b : EReal => a * b) (V1_v0 m c b s k) (congrFun (V1_of m c main_arg4 (by decide)) _)

theorem V3_v2 (p : Fin 8) (g : Fin 5) (n : Fin 27648) :
    aS (F := Ideal) (V3 m (outs m)) c (ix3 p g n) = gS m c (ix2 ⟨p.val * 5 + g.val, by omega⟩ n) := by
  have h : V3 m (outs m) c main_v2 = shapeCast S8x5x27648 (gS m c) shapeCasts_S40x27648_S8x5x27648 := by
    have h2 : V2 m (outs m) c main_arg2 = gS m c := (V2_of m (outs m) c main_arg2 (by decide)).trans (V1_of m c main_arg2 (by decide))
    rw [← h2]
    show StableHlo.after hostOps1 (V2 m (outs m) c) _ = _
    simp only [hostOps1]
    after_results_simp
    rfl
  refine (congrFun h _).trans ?_
  exact shapeCast_apply _ _ _ (ix2 ⟨p.val * 5 + g.val, by omega⟩ n) (by rw [Shape.rowMajor_val_two, Shape.rowMajor_val_three]; rfl)

theorem V3_arg (r : Ref sig .tc) (h1 : r ∉ hostOps1_W) (h2 : r ∉ ([main_v1] : List (Ref sig .tc))) (h3 : r ∉ hostOps0_W) :
    V3 m (outs m) c r = V0 m c r :=
  (V3_of m (outs m) c r h1).trans ((V2_of m (outs m) c r h2).trans (V1_of m c r h3))

/-- The decoded matrix, read off the arguments. -/
def wt (k : Fin 5120) (n : Fin 27648) : EReal :=
  elt (F := Ideal) (gQ m c (ix2 ⟨k.val / 2, by omega⟩ n)) (gS m c (ix2 ⟨k.val / 128, by omega⟩ n))
    (gW m c (ix3 ⟨n.val / 128, by omega⟩ ⟨k.val / 2, by omega⟩ ⟨n.val % 128, by omega⟩)) (k.val % 2)

theorem dec_eq (k : Fin 5120) (n : Fin 27648) : dec (F := Ideal) (V3 m (outs m)) c k n = wt m c k n := by
  unfold dec wt
  refine congr (congr (congrArg₂ (elt (F := Ideal)) (congrFun (V3_arg m c main_arg1 (by decide) (by decide) (by decide)) _) ((V3_v2 m c _ _ n).trans (congrArg (gS m c) ?_)))
    (congrFun (V3_arg m c main_arg3 (by decide) (by decide) (by decide)) _)) rfl
  congr 1
  apply Fin.ext
  show k.val / 640 * 5 + k.val % 640 / 128 = k.val / 128
  omega

/-- An entry of the result. -/
theorem result_apply (b : Fin 2) (s : Fin 6144) (n : Fin 27648) :
    (V5 m (outs m) c main_v4 : S2x6144x27648.Idx → EReal) (ix3 b s n)
      = (∑ k : Fin 5120, gX m c (ix3 b s k) * wt m c k n)
        + ∑ j : Fin 128, ((∑ k : Fin 5120, gX m c (ix3 b s k) * gA m c (ix2 k j)) * ((1 / 8 : ℝ) : EReal)) * gB m c (ix2 j n) := by
  have h4 : V4 m (outs m) c main_v3 = fun z : S12288x27648.Idx => tot (V3 m (outs m)) c (z 0) (z 1) :=
    (Function.update_self ..).trans ((outs_v3 m 4 c).trans ((out1_eq m c).trans (arr1 (V3 m (outs m)) c)))
  have h : V5 m (outs m) c main_v4 = shapeCast S2x6144x27648 (fun z : S12288x27648.Idx => tot (V3 m (outs m)) c (z 0) (z 1)) shapeCasts_S12288x27648_S2x6144x27648 := by
    rw [← h4]
    show StableHlo.after hostOps2 (V4 m (outs m) c) _ = _
    simp only [hostOps2]
    after_results_simp
    rfl
  refine (congrFun h _).trans ?_
  refine (shapeCast_apply _ _ _ (ix2 (row b s) n : S12288x27648.Idx) (by rw [Shape.rowMajor_val_two, Shape.rowMajor_val_three]; rfl)).trans ?_
  refine congrArg₂ (fun a b : EReal => a + b) (Finset.sum_congr rfl fun k _ => ?_) (Finset.sum_congr rfl fun j _ => ?_)
  · exact congrArg₂ (fun a b : EReal => a * b) (V3_v0 m c b s k) (dec_eq m c k n)
  · exact congrArg₂ (fun a b : EReal => a * b) (V3_v1 m c b s j) (congrFun (V3_arg m c main_arg5 (by decide) (by decide) (by decide)) _)

end Cert.Proof.KernelIdeal

end
-- ==== Proof.RefValue.lean ====
/-
  An entry of the reference's result over the extended reals, as sums over the arguments.
-/
module

public import proofs.«01_k».proof.Proof.Arith
public import proofs.«01_k».proof.Proof.Gen.ReferenceIdeal.Read
public import Idealize.ShloMosaic.Lib.BitcastConvert

@[expose] public section

set_option maxRecDepth 16384

noncomputable section

namespace Cert.Proof.Reference

open Cert.ReferenceIdeal Cert.ReferenceIdeal.Gen Cert.ReferenceIdeal.Read
open Idealize.ShloMosaic
open scoped BigOperators

variable (x : S2x6144x5120.Idx → EReal) (q : S2560x27648.Idx → BitVec 8) (sc : S40x27648.Idx → EReal) (w : S216x2560x128.Idx → BitVec 32)
  (A : S5120x128.Idx → EReal) (B : S128x27648.Idx → EReal)

set_option maxRecDepth 100000 in
theorem low_nib : ∀ q : BitVec 8,
    (Scalar.select (IntOp.cmpi .sge (IntOp.andi (q.setWidth 32) 15#32) 8#32) (IntOp.subi (IntOp.andi (q.setWidth 32) 15#32) 16#32)
      (IntOp.andi (q.setWidth 32) 15#32)).toInt = nib q 0 := by
  decide +kernel

set_option maxRecDepth 100000 in
theorem high_nib : ∀ q : BitVec 8,
    (Scalar.select (IntOp.cmpi .sge (IntOp.shrsi .host (q.setWidth 32) 4#32) 8#32) (IntOp.subi (IntOp.shrsi .host (q.setWidth 32) 4#32) 16#32)
      (IntOp.shrsi .host (q.setWidth 32) 4#32)).toInt = nib q 1 := by
  decide +kernel

theorem fold_row (j n : ℕ) (hn : n < 27648) :
    (((j * 27648 + n) / 1769472 * 64 + (j * 27648 + n) / 27648 % 64) * 27648 + (j * 27648 + n) % 27648) / 27648 = j := by omega
theorem fold_col (j n : ℕ) (hn : n < 27648) :
    (((j * 27648 + n) / 1769472 * 64 + (j * 27648 + n) / 27648 % 64) * 27648 + (j * 27648 + n) % 27648) % 27648 = n := by omega

theorem w_lo (j : Fin 2560) (n : Fin 27648) :
    val_main_v14 (F := Ideal) q sc (ix2 j n) = ((nib (q (ix2 j n)) 0 : ℝ) : EReal) * sc (ix2 ⟨j.val / 64, by omega⟩ n) := by
  rw [val_main_v14_apply, val_main_v13_apply, val_main_v10_apply, val_main_v12_apply, val_main_v11_apply, val_main_v0_apply]
  have e1 : idx_main_v10 (idx_main_v14 (ix2 j n)) = ix2 j n := by
    funext a; apply Fin.ext
    match a with
    | ⟨0, _⟩ => exact fold_row j.val n.val n.isLt
    | ⟨1, _⟩ => exact fold_col j.val n.val n.isLt
  have e2 : idx_main_v11 (idx_main_v12 (idx_main_v14 (ix2 j n))) = ix2 ⟨j.val / 64, by omega⟩ n := by
    funext a; apply Fin.ext
    match a with
    | ⟨0, _⟩ => show (j.val * 27648 + n.val) / 1769472 = j.val / 64; omega
    | ⟨1, _⟩ => show (j.val * 27648 + n.val) % 27648 = n.val; omega
  rw [e1, e2, ← low_nib]
  rfl

theorem w_hi (j : Fin 2560) (n : Fin 27648) :
    val_main_v27 (F := Ideal) q sc (ix2 j n) = ((nib (q (ix2 j n)) 1 : ℝ) : EReal) * sc (ix2 ⟨j.val / 64, by omega⟩ n) := by
  rw [val_main_v27_apply, val_main_v26_apply, val_main_v23_apply, val_main_v25_apply, val_main_v24_apply, val_main_v0_apply]
  have e1 : idx_main_v23 (idx_main_v27 (ix2 j n)) = ix2 j n := by
    funext a; apply Fin.ext
    match a with
    | ⟨0, _⟩ => exact fold_row j.val n.val n.isLt
    | ⟨1, _⟩ => exact fold_col j.val n.val n.isLt
  have e2 : idx_main_v24 (idx_main_v25 (idx_main_v27 (ix2 j n))) = ix2 ⟨j.val / 64, by omega⟩ n := by
    funext a; apply Fin.ext
    match a with
    | ⟨0, _⟩ => show (j.val * 27648 + n.val) / 1769472 = j.val / 64; omega
    | ⟨1, _⟩ => show (j.val * 27648 + n.val) % 27648 = n.val; omega
  rw [e1, e2, ← high_nib]
  rfl

theorem sparse (k : Fin 5120) (n : Fin 27648) :
    val_main_v35 (F := Ideal) w (ix2 k n)
      = Ideal.ofBits .bf16 (half (w (ix3 ⟨n.val / 128, by omega⟩ ⟨k.val / 2, by omega⟩ ⟨n.val % 128, by omega⟩)) (k.val % 2)) := by
  rw [val_main_v35_apply, val_main_v34_apply]
  unfold val_main_v33
  show Ideal.ofBits .bf16 (Host.bitcastConvertNarrow S216x2560x128x2 16 w splits_S216x2560x128_w32_S216x2560x128x2_w16 _) = _
  rw [Host.bitcastConvertNarrow_apply]
  unfold half
  have e : splits_S216x2560x128_w32_S216x2560x128x2_w16.drop (idx_main_v34 (idx_main_v35 (ix2 k n)))
      = ix3 ⟨n.val / 128, by omega⟩ ⟨k.val / 2, by omega⟩ ⟨n.val % 128, by omega⟩ := by
    funext a; apply Fin.ext
    match a with
    | ⟨0, _⟩ => show (k.val * 27648 + n.val) / 128 % 216 = n.val / 128; omega
    | ⟨1, _⟩ => show (k.val * 27648 + n.val) / 55296 = k.val / 2; omega
    | ⟨2, _⟩ => show (k.val * 27648 + n.val) % 128 = n.val % 128; omega
  rw [e]
  have e2 : ((idx_main_v34 (idx_main_v35 (ix2 k n))) splits_S216x2560x128_w32_S216x2560x128x2_w16.axis).val = k.val % 2 := by
    show (k.val * 27648 + n.val) / 27648 % 2 = k.val % 2
    omega
  rw [e2, Nat.mul_comm]

theorem x_even (b : Fin 2) (s : Fin 6144) (j : Fin 2560) :
    val_main_v28 (F := Ideal) x (ix3 b s j) = x (ix3 b s ⟨2 * j.val, by omega⟩) := by
  unfold val_main_v28
  rw [Host.slice_apply]
  congr 1
  funext a; apply Fin.ext
  match a with
  | ⟨0, _⟩ => show 0 + 1 * b.val = b.val; omega
  | ⟨1, _⟩ => show 0 + 1 * s.val = s.val; omega
  | ⟨2, _⟩ => show 0 + 2 * j.val = 2 * j.val; omega

theorem x_odd (b : Fin 2) (s : Fin 6144) (j : Fin 2560) :
    val_main_v30 (F := Ideal) x (ix3 b s j) = x (ix3 b s ⟨2 * j.val + 1, by omega⟩) := by
  unfold val_main_v30
  rw [Host.slice_apply]
  congr 1
  funext a; apply Fin.ext
  match a with
  | ⟨0, _⟩ => show 0 + 1 * b.val = b.val; omega
  | ⟨1, _⟩ => show 0 + 1 * s.val = s.val; omega
  | ⟨2, _⟩ => show 1 + 2 * j.val = 2 * j.val + 1; omega

/-- An entry of the reference's result. -/
theorem result_apply (b : Fin 2) (s : Fin 6144) (n : Fin 27648) :
    val_main_v44 (F := Ideal) x q sc w A B (ix3 b s n)
      = ((∑ j : Fin 2560, x (ix3 b s ⟨2 * j.val, by omega⟩) * (((nib (q (ix2 j n)) 0 : ℝ) : EReal) * sc (ix2 ⟨j.val / 64, by omega⟩ n))
          + ∑ j : Fin 2560, x (ix3 b s ⟨2 * j.val + 1, by omega⟩) * (((nib (q (ix2 j n)) 1 : ℝ) : EReal) * sc (ix2 ⟨j.val / 64, by omega⟩ n)))
          + ∑ k : Fin 5120, x (ix3 b s k)
              * Ideal.ofBits .bf16 (half (w (ix3 ⟨n.val / 128, by omega⟩ ⟨k.val / 2, by omega⟩ ⟨n.val % 128, by omega⟩)) (k.val % 2)))
        + ((1 / 8 : ℝ) : EReal) * ∑ j : Fin 128, (∑ k : Fin 5120, x (ix3 b s k) * A (ix2 k j)) * B (ix2 j n) := by
  have h29 : val_main_v29 (F := Ideal) x q sc (ix3 b s n)
      = ∑ j : Fin 2560, x (ix3 b s ⟨2 * j.val, by omega⟩) * (((nib (q (ix2 j n)) 0 : ℝ) : EReal) * sc (ix2 ⟨j.val / 64, by omega⟩ n)) := by
    refine (val_main_v29_apply x q sc _).trans (Finset.sum_congr rfl fun j _ => ?_)
    have el : lidx_main_v29 (ix3 b s n) j = ix3 b s j := by funext a; match a with | ⟨0, _⟩ => rfl | ⟨1, _⟩ => rfl | ⟨2, _⟩ => rfl
    have er : ridx_main_v29 (ix3 b s n) j = ix2 j n := by funext a; match a with | ⟨0, _⟩ => rfl | ⟨1, _⟩ => rfl
    rw [el, er]
    exact congrArg₂ (fun a b : EReal => a * b) (x_even x b s j) (w_lo q sc j n)
  have h31 : val_main_v31 (F := Ideal) x q sc (ix3 b s n)
      = ∑ j : Fin 2560, x (ix3 b s ⟨2 * j.val + 1, by omega⟩) * (((nib (q (ix2 j n)) 1 : ℝ) : EReal) * sc (ix2 ⟨j.val / 64, by omega⟩ n)) := by
    refine (val_main_v31_apply x q sc _).trans (Finset.sum_congr rfl fun j _ => ?_)
    have el : lidx_main_v31 (ix3 b s n) j = ix3 b s j := by funext a; match a with | ⟨0, _⟩ => rfl | ⟨1, _⟩ => rfl | ⟨2, _⟩ => rfl
    have er : ridx_main_v31 (ix3 b s n) j = ix2 j n := by funext a; match a with | ⟨0, _⟩ => rfl | ⟨1, _⟩ => rfl
    rw [el, er]
    exact congrArg₂ (fun a b : EReal => a * b) (x_odd x b s j) (w_hi q sc j n)
  have h36 : val_main_v36 (F := Ideal) x w (ix3 b s n)
      = ∑ k : Fin 5120, x (ix3 b s k)
          * Ideal.ofBits .bf16 (half (w (ix3 ⟨n.val / 128, by omega⟩ ⟨k.val / 2, by omega⟩ ⟨n.val % 128, by omega⟩)) (k.val % 2)) := by
    refine (val_main_v36_apply x w _).trans (Finset.sum_congr rfl fun j _ => ?_)
    have el : lidx_main_v36 (ix3 b s n) j = ix3 b s j := by funext a; match a with | ⟨0, _⟩ => rfl | ⟨1, _⟩ => rfl | ⟨2, _⟩ => rfl
    have er : ridx_main_v36 (ix3 b s n) j = ix2 j n := by funext a; match a with | ⟨0, _⟩ => rfl | ⟨1, _⟩ => rfl
    rw [el, er]
    exact congrArg (fun a : EReal => x (ix3 b s j) * a) (sparse w j n)
  have h37 (j : Fin 128) : val_main_v37 (F := Ideal) x A (ix3 b s j) = ∑ k : Fin 5120, x (ix3 b s k) * A (ix2 k j) := by
    refine (val_main_v37_apply x A _).trans (Finset.sum_congr rfl fun k _ => ?_)
    have el : lidx_main_v37 (ix3 b s j) k = ix3 b s k := by funext a; match a with | ⟨0, _⟩ => rfl | ⟨1, _⟩ => rfl | ⟨2, _⟩ => rfl
    have er : ridx_main_v37 (ix3 b s j) k = ix2 k j := by funext a; match a with | ⟨0, _⟩ => rfl | ⟨1, _⟩ => rfl
    rw [el, er]
  have h39 : val_main_v39 (F := Ideal) x A B (ix3 b s n) = ∑ j : Fin 128, (∑ k : Fin 5120, x (ix3 b s k) * A (ix2 k j)) * B (ix2 j n) := by
    refine (val_main_v39_apply x A B _).trans (Finset.sum_congr rfl fun j _ => ?_)
    have el : lidx_main_v39 (ix3 b s n) j = ix3 b s j := by funext a; match a with | ⟨0, _⟩ => rfl | ⟨1, _⟩ => rfl | ⟨2, _⟩ => rfl
    have er : ridx_main_v39 (ix3 b s n) j = ix2 j n := by funext a; match a with | ⟨0, _⟩ => rfl | ⟨1, _⟩ => rfl
    rw [el, er]
    exact congrArg (fun a : EReal => a * B (ix2 j n)) (h37 j)
  have h41 : val_main_v41 (F := Ideal) (ix3 b s n) = ((1 / 8 : ℝ) : EReal) := by
    rw [val_main_v41_apply]
    exact eighth_f32
  rw [val_main_v44_apply, val_main_v43_apply, val_main_v40_apply, val_main_v32_apply, val_main_v42_apply, h29, h31, h36, h39, h41]
  rfl

end Cert.Proof.Reference

end
-- ==== Proof.Match.lean ====
/-
  The two programs' results over the extended reals are equal where the activations and the scales are finite.
-/
module

public import proofs.«01_k».proof.Defs
public import proofs.«01_k».proof.Proof.Gen.Pre_finite
public import proofs.«01_k».proof.Proof.KI.Result
public import proofs.«01_k».proof.Proof.RefValue

@[expose] public section

set_option maxRecDepth 16384

noncomputable section

namespace Cert.Proof

open Cert.KernelIdeal Cert.KernelIdeal.Gen Cert.Proof.KernelIdeal
open Idealize.ShloMosaic Idealize.ShloMosaic.TcCoe
open scoped BigOperators

theorem top_f32 : Ideal.ofBits .f32 0x7F800000#32 = ⊤ := by simp [Ideal.ofBits, Ideal.ieee]

/-- Where the comparison of an absolute value with infinity is true, the value is a real number. -/
theorem finite_of_cmp (z : EReal) (h : Ideal.cmp .olt (max z (-z)) (Ideal.ofBits .f32 0x7F800000#32) = 1#1) : ∃ r : ℝ, z = r := by
  rw [top_f32] at h
  refine finite_of_abs ?_
  by_contra hn
  have : Ideal.cmp .olt (max z (-z)) ⊤ = 0#1 := by simp [Ideal.cmp, hn]
  rw [this] at h
  exact absurd h (by decide)

variable (m : (ℓ : Loc nD τ sig) → Buf (Elt Ideal) ℓ) (c : Dev nD)

theorem finite_x (h : Pre_KernelIdeal_finite (hPre_finite := Cert.Pre_finite.Gen.facts) m) (i : S2x6144x5120.Idx) : ∃ r : ℝ, gX m c i = r :=
  finite_of_cmp _ (congrFun (h c).1 i)

theorem finite_s (h : Pre_KernelIdeal_finite (hPre_finite := Cert.Pre_finite.Gen.facts) m) (i : S40x27648.Idx) : ∃ r : ℝ, gS m c i = r :=
  finite_of_cmp _ (congrFun (h c).2 i)

theorem result_eq (h : Pre_KernelIdeal_finite (hPre_finite := Cert.Pre_finite.Gen.facts) m) :
    (V5 m (outs m) c main_v4 : S2x6144x27648.Idx → EReal)
      = Cert.ReferenceIdeal.Read.val_main_v44 (F := Ideal) (gX m c) (gQ m c) (gS m c) (gW m c) (gA m c) (gB m c) := by
  funext i
  have hi : i = ix3 (i 0) (i 1) (i 2) := by funext a; match a with | ⟨0, _⟩ => rfl | ⟨1, _⟩ => rfl | ⟨2, _⟩ => rfl
  generalize e0 : i 0 = b at hi
  generalize e1 : i 1 = s at hi
  generalize e2 : i 2 = n at hi
  subst hi
  refine (KernelIdeal.result_apply m c b s n).trans (Eq.trans ?_ (Reference.result_apply (gX m c) (gQ m c) (gS m c) (gW m c) (gA m c) (gB m c) b s n).symm)
  have hw (k : Fin 5120) : wt m c k n
      = ((nib (gQ m c (ix2 ⟨k.val / 2, by omega⟩ n)) (k.val % 2) : ℝ) : EReal) * gS m c (ix2 ⟨k.val / 128, by omega⟩ n)
        + Ideal.ofBits .bf16 (half (gW m c (ix3 ⟨n.val / 128, by have : n.val < 27648 := n.isLt; omega⟩ ⟨k.val / 2, by omega⟩ ⟨n.val % 128, by omega⟩)) (k.val % 2)) :=
    elt_ideal _ _ _ ⟨k.val % 2, Nat.mod_lt _ (by decide)⟩
  simp only [hw]
  refine (entry_eq (fun k => gX m c (ix3 b s k))
    (fun k => ((nib (gQ m c (ix2 ⟨k.val / 2, by omega⟩ n)) (k.val % 2) : ℝ) : EReal) * gS m c (ix2 ⟨k.val / 128, by omega⟩ n)) _ _ (fun j => gB m c (ix2 j n))
    (fun k => finite_x m c h _) (fun k => ?_)).trans ?_
  · obtain ⟨r, hr⟩ := finite_s m c h (ix2 ⟨k.val / 128, by omega⟩ n)
    exact ⟨_, (congrArg (fun z : EReal => _ * z) hr).trans (EReal.coe_mul _ _).symm⟩
  · refine congrArg₂ (fun a b : EReal => a + b) (congrArg₂ (fun a b : EReal => a + b) (congrArg₂ (fun a b : EReal => a + b) ?_ ?_) rfl) rfl
    · refine Finset.sum_congr rfl fun j _ => ?_
      have a1 : (⟨2 * j.val / 2, by omega⟩ : Fin 2560) = j := Fin.ext (by show 2 * j.val / 2 = j.val; omega)
      have a2 : (⟨2 * j.val / 128, by omega⟩ : Fin 40) = ⟨j.val / 64, by omega⟩ := Fin.ext (by show 2 * j.val / 128 = j.val / 64; omega)
      have a3 : 2 * j.val % 2 = 0 := by omega
      simp only [a1, a2, a3]
    · refine Finset.sum_congr rfl fun j _ => ?_
      have a1 : (⟨(2 * j.val + 1) / 2, by omega⟩ : Fin 2560) = j := Fin.ext (by show (2 * j.val + 1) / 2 = j.val; omega)
      have a2 : (⟨(2 * j.val + 1) / 128, by omega⟩ : Fin 40) = ⟨j.val / 64, by omega⟩ := Fin.ext (by show (2 * j.val + 1) / 128 = j.val / 64; omega)
      have a3 : (2 * j.val + 1) % 2 = 1 := by omega
      simp only [a1, a2, a3]

end Cert.Proof

end
-- ==== Proof.lean ====
/-
  The five claims: each program runs, keeps its arguments and leaves every counter at zero; the idealized kernel is the
  kernel's own text; and over the extended reals the kernel's result is the reference's.
-/
module

public import proofs.«01_k».proof.Defs
public import proofs.«01_k».proof.Proof.Gen.Kernel
public import proofs.«01_k».proof.Proof.Gen.KernelIdeal
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.K.Run
public import proofs.«01_k».proof.Proof.KI.Run
public import proofs.«01_k».proof.Proof.Match

@[expose] public section

set_option maxRecDepth 16384

noncomputable section

namespace Cert.Proof

open Idealize.ShloMosaic Idealize.SL.Sem

theorem frame_kernel : quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.Proof.Kernel.run_main (F := Bits) m g)

theorem frame_ideal : quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1⟩, h.2⟩)
    (Cert.Proof.KernelIdeal.run_main (F := Ideal) m g)

theorem frame_reference : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

theorem value : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Gen.V5 m (Cert.Proof.KernelIdeal.outs m) c (Proc.devRef .tc Cert.KernelIdeal.main_v4), ?_, ?_⟩
  · exact (θ_run _ _ _).mono (fun _ h c => ⟨(h.1 c).2.2.2.2.2.2, (h.1 c).1, (h.1 c).2.1, (h.1 c).2.2.1, (h.1 c).2.2.2.1, (h.1 c).2.2.2.2.1, (h.1 c).2.2.2.2.2.1⟩)
      (Cert.Proof.KernelIdeal.run_main (F := Ideal) m g)
  · refine (θ_run _ _ _).mono (fun r h c => ⟨?_, (h c).2⟩) (Cert.ReferenceIdeal.Value.run (F := Ideal) m' g')
    obtain ⟨h0, h1, h2, h3, h4, h5⟩ := hargs c
    refine ((h c).1.trans (Cert.ReferenceIdeal.Read.val_main_v44_eq _ _ _ _ _ _)).trans ?_
    rw [h0, h1, h2, h3, h4, h5]
    exact (result_eq m c hpre).symm

theorem claim : Cert.Claim :=
  ⟨Cert.Kernel.Gen.facts, Cert.KernelIdeal.Gen.facts, Cert.ReferenceIdeal.Gen.facts, Cert.Pre_finite.Gen.facts,
    frame_kernel, frame_ideal, fun m g _ => frame_ideal m g trivial, frame_reference, fun m g _ => frame_reference m g trivial, trivial, value⟩

end Cert.Proof

end
